-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x7168 : Shape := ⟨3, ![16, 1, 7168]⟩
abbrev S2304x3584 : Shape := ⟨2, ![2304, 3584]⟩
abbrev S2304x224 : Shape := ⟨2, ![2304, 224]⟩
abbrev S7168x1152 : Shape := ⟨2, ![7168, 1152]⟩
abbrev S7168x72 : Shape := ⟨2, ![7168, 72]⟩
abbrev S16x7168 : Shape := ⟨2, ![16, 7168]⟩
abbrev S2x112x2304 : Shape := ⟨3, ![2, 112, 2304]⟩
abbrev S2x40x7168 : Shape := ⟨3, ![2, 40, 7168]⟩
abbrev S9x16x256 : Shape := ⟨3, ![9, 16, 256]⟩
abbrev S28x16x256 : Shape := ⟨3, ![28, 16, 256]⟩
abbrev S16x2304 : Shape := ⟨2, ![16, 2304]⟩
abbrev S6 : Shape := ⟨1, ![6]⟩
abbrev S1 : Shape := ⟨1, ![1]⟩
abbrev S_ : Shape := ⟨0, ![]⟩
abbrev S128x224 : Shape := ⟨2, ![128, 224]⟩
abbrev S224x128 : Shape := ⟨2, ![224, 128]⟩
abbrev S112x128 : Shape := ⟨2, ![112, 128]⟩
abbrev S1x112x128 : Shape := ⟨3, ![1, 112, 128]⟩
abbrev S16x256 : Shape := ⟨2, ![16, 256]⟩
abbrev S1x16x256 : Shape := ⟨3, ![1, 16, 256]⟩
abbrev S256x128 : Shape := ⟨2, ![256, 128]⟩
abbrev S128x256 : Shape := ⟨2, ![128, 256]⟩
abbrev S32x256 : Shape := ⟨2, ![32, 256]⟩
abbrev S256x256 : Shape := ⟨2, ![256, 256]⟩
abbrev S1x1x256 : Shape := ⟨3, ![1, 1, 256]⟩
abbrev S1x256 : Shape := ⟨2, ![1, 256]⟩
abbrev S128x72 : Shape := ⟨2, ![128, 72]⟩
abbrev S72x128 : Shape := ⟨2, ![72, 128]⟩
abbrev S36x128 : Shape := ⟨2, ![36, 128]⟩
abbrev S1x36x128 : Shape := ⟨3, ![1, 36, 128]⟩

abbrev nBuf : Space → Nat
  | .hbm => 10
  | .vmem => 18
  | .smem => 0
  | _ => 0

abbrev bufTy : (tb : Table) → Fin (tcTables nBuf tb) → BufTy
  | .hbm, ⟨0, _⟩ => ⟨S16x1x7168, .bf16⟩
  | .hbm, ⟨1, _⟩ => ⟨S2304x3584, .i8⟩
  | .hbm, ⟨2, _⟩ => ⟨S2304x224, .i16⟩
  | .hbm, ⟨3, _⟩ => ⟨S2304x3584, .i8⟩
  | .hbm, ⟨4, _⟩ => ⟨S2304x224, .i16⟩
  | .hbm, ⟨5, _⟩ => ⟨S7168x1152, .i8⟩
  | .hbm, ⟨6, _⟩ => ⟨S7168x72, .i16⟩
  | .hbm, ⟨7, _⟩ => ⟨S16x7168, .bf16⟩
  | .hbm, ⟨8, _⟩ => ⟨S16x7168, .bf16⟩
  | .hbm, ⟨9, _⟩ => ⟨S16x1x7168, .bf16⟩
  | .local _ .vmem, ⟨0, _⟩ => ⟨S16x7168, .bf16⟩
  | .local _ .vmem, ⟨1, _⟩ => ⟨S16x7168, .bf16⟩
  | .local _ .vmem, ⟨2, _⟩ => ⟨S2304x3584, .i8⟩
  | .local _ .vmem, ⟨3, _⟩ => ⟨S2304x3584, .i8⟩
  | .local _ .vmem, ⟨4, _⟩ => ⟨S7168x1152, .i8⟩
  | .local _ .vmem, ⟨5, _⟩ => ⟨S2304x224, .i16⟩
  | .local _ .vmem, ⟨6, _⟩ => ⟨S2304x224, .i16⟩
  | .local _ .vmem, ⟨7, _⟩ => ⟨S7168x72, .i16⟩
  | .local _ .vmem, ⟨8, _⟩ => ⟨S2x112x2304, .f32⟩
  | .local _ .vmem, ⟨9, _⟩ => ⟨S2x112x2304, .f32⟩
  | .local _ .vmem, ⟨10, _⟩ => ⟨S2x112x2304, .f32⟩
  | .local _ .vmem, ⟨11, _⟩ => ⟨S2x112x2304, .f32⟩
  | .local _ .vmem, ⟨12, _⟩ => ⟨S2x40x7168, .f32⟩
  | .local _ .vmem, ⟨13, _⟩ => ⟨S2x40x7168, .f32⟩
  | .local _ .vmem, ⟨14, _⟩ => ⟨S9x16x256, .f32⟩
  | .local _ .vmem, ⟨15, _⟩ => ⟨S9x16x256, .f32⟩
  | .local _ .vmem, ⟨16, _⟩ => ⟨S28x16x256, .f32⟩
  | .local _ .vmem, ⟨17, _⟩ => ⟨S16x2304, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_11 : BitVec 32 := 0#32
  let c18_i32 : BitVec 32 := 18#32
  let v26 : BitVec 32 := Scalar.addi c0_i32_11 c18_i32
  let c1_i32_12 : BitVec 32 := 1#32
  ⟨c0_i32_11, v26, c1_i32_12⟩
def k0_mult1 (k0_t1 : Fin k0_t1_loop.trips) : BitVec 32 :=
  let c0_i32_11 : BitVec 32 := 0#32
  let c1_i32_12 : BitVec 32 := 1#32
  let arg25 : BitVec 32 := Scf.iv c0_i32_11 c1_i32_12 k0_t1
  let c128_i32 : BitVec 32 := 128#32
  let v252 : BitVec 32 := Scalar.muli arg25 c128_i32
  v252
def k0_off1 (k0_t1 : Fin k0_t1_loop.trips) : Fin 2 → Nat :=
  let c0_i32_11 : BitVec 32 := 0#32
  let c1_i32_12 : BitVec 32 := 1#32
  let arg25 : BitVec 32 := Scf.iv c0_i32_11 c1_i32_12 k0_t1
  let c128_i32 : BitVec 32 := 128#32
  let v252 : BitVec 32 := Scalar.muli arg25 c128_i32
  let v253 : BitVec 32 := v252
  let v254 : Index := Scalar.indexCast v253
  let c0_190 : Index := 0#32
  ![v254.toNat, 0]
def k0_mult2 (k0_t1 : Fin k0_t1_loop.trips) : BitVec 32 :=
  let c0_i32_11 : BitVec 32 := 0#32
  let c1_i32_12 : BitVec 32 := 1#32
  let arg25 : BitVec 32 := Scf.iv c0_i32_11 c1_i32_12 k0_t1
  let c128_i32_199 : BitVec 32 := 128#32
  let v295 : BitVec 32 := Scalar.muli arg25 c128_i32_199
  v295
def k0_off2 (k0_t1 : Fin k0_t1_loop.trips) : Fin 3 → Nat :=
  let c0_200 : Index := 0#32
  let c0_201 : Index := 0#32
  let c0_i32_11 : BitVec 32 := 0#32
  let c1_i32_12 : BitVec 32 := 1#32
  let arg25 : BitVec 32 := Scf.iv c0_i32_11 c1_i32_12 k0_t1
  let c128_i32_199 : BitVec 32 := 128#32
  let v295 : BitVec 32 := Scalar.muli arg25 c128_i32_199
  let v296 : BitVec 32 := v295
  let v297 : Index := Scalar.indexCast v296
  ![0, 0, v297.toNat]
def k0_mult3 (k0_t1 : Fin k0_t1_loop.trips) : BitVec 32 :=
  let c0_i32_11 : BitVec 32 := 0#32
  let c1_i32_12 : BitVec 32 := 1#32
  let arg25 : BitVec 32 := Scf.iv c0_i32_11 c1_i32_12 k0_t1
  let c128_i32_217 : BitVec 32 := 128#32
  let v340 : BitVec 32 := Scalar.muli arg25 c128_i32_217
  v340
def k0_off3 (k0_t1 : Fin k0_t1_loop.trips) : Fin 3 → Nat :=
  let c1_218 : Index := 1#32
  let c0_219 : Index := 0#32
  let c0_i32_11 : BitVec 32 := 0#32
  let c1_i32_12 : BitVec 32 := 1#32
  let arg25 : BitVec 32 := Scf.iv c0_i32_11 c1_i32_12 k0_t1
  let c128_i32_217 : BitVec 32 := 128#32
  let v340 : BitVec 32 := Scalar.muli arg25 c128_i32_217
  let v341 : BitVec 32 := v340
  let v342 : Index := Scalar.indexCast v341
  ![1, 0, v342.toNat]
@[reducible] def k0_t2_loop : Scf.Loop 32 :=
  let c0_i32_15 : BitVec 32 := 0#32
  let c18_i32_16 : BitVec 32 := 18#32
  let v29 : BitVec 32 := Scalar.addi c0_i32_15 c18_i32_16
  let c1_i32_17 : BitVec 32 := 1#32
  ⟨c0_i32_15, v29, c1_i32_17⟩
def k0_mult4 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c128_i32 : BitVec 32 := 128#32
  let v252 : BitVec 32 := Scalar.muli arg25 c128_i32
  v252
def k0_off4 (k0_t2 : Fin k0_t2_loop.trips) : Fin 2 → Nat :=
  let c0_i32_15 : BitVec 32 := 0#32
  let c1_i32_17 : BitVec 32 := 1#32
  let arg25 : BitVec 32 := Scf.iv c0_i32_15 c1_i32_17 k0_t2
  let c128_i32 : BitVec 32 := 128#32
  let v252 : BitVec 32 := Scalar.muli arg25 c128_i32
  let v253 : BitVec 32 := v252
  let v254 : Index := Scalar.indexCast v253
  let c0_190 : Index := 0#32
  ![v254.toNat, 0]
def k0_mult5 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c128_i32_199 : BitVec 32 := 128#32
  let v295 : BitVec 32 := Scalar.muli arg25 c128_i32_199
  v295
def k0_off5 (k0_t2 : Fin k0_t2_loop.trips) : Fin 3 → Nat :=
  let c0_200 : Index := 0#32
  let c0_201 : Index := 0#32
  let c0_i32_15 : BitVec 32 := 0#32
  let c1_i32_17 : BitVec 32 := 1#32
  let arg25 : BitVec 32 := Scf.iv c0_i32_15 c1_i32_17 k0_t2
  let c128_i32_199 : BitVec 32 := 128#32
  let v295 : BitVec 32 := Scalar.muli arg25 c128_i32_199
  let v296 : BitVec 32 := v295
  let v297 : Index := Scalar.indexCast v296
  ![0, 0, v297.toNat]
def k0_mult6 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c128_i32_217 : BitVec 32 := 128#32
  let v340 : BitVec 32 := Scalar.muli arg25 c128_i32_217
  v340
def k0_off6 (k0_t2 : Fin k0_t2_loop.trips) : Fin 3 → Nat :=
  let c1_218 : Index := 1#32
  let c0_219 : Index := 0#32
  let c0_i32_15 : BitVec 32 := 0#32
  let c1_i32_17 : BitVec 32 := 1#32
  let arg25 : BitVec 32 := Scf.iv c0_i32_15 c1_i32_17 k0_t2
  let c128_i32_217 : BitVec 32 := 128#32
  let v340 : BitVec 32 := Scalar.muli arg25 c128_i32_217
  let v341 : BitVec 32 := v340
  let v342 : Index := Scalar.indexCast v341
  ![1, 0, v342.toNat]
@[reducible] def k0_t3_loop : Scf.Loop 32 :=
  let c0_i32_21 : BitVec 32 := 0#32
  let c28_i32 : BitVec 32 := 28#32
  let v34 : BitVec 32 := Scalar.addi c0_i32_21 c28_i32
  let c1_i32_22 : BitVec 32 := 1#32
  ⟨c0_i32_21, v34, c1_i32_22⟩
def k0_mult7 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c256_i32 : BitVec 32 := 256#32
  let v252 : BitVec 32 := Scalar.muli arg25 c256_i32
  v252
def k0_off7 (k0_t3 : Fin k0_t3_loop.trips) : Fin 2 → Nat :=
  let c0_190 : Index := 0#32
  let c0_i32_21 : BitVec 32 := 0#32
  let c1_i32_22 : BitVec 32 := 1#32
  let arg25 : BitVec 32 := Scf.iv c0_i32_21 c1_i32_22 k0_t3
  let c256_i32 : BitVec 32 := 256#32
  let v252 : BitVec 32 := Scalar.muli arg25 c256_i32
  let v253 : BitVec 32 := v252
  let v254 : Index := Scalar.indexCast v253
  ![0, v254.toNat]
def k0_mult8 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32 : BitVec 32 := 128#32
  let v259 : BitVec 32 := Scalar.muli arg25 c128_i32
  v259
def k0_off8 (k0_t3 : Fin k0_t3_loop.trips) : Fin 2 → Nat :=
  let c0_194 : Index := 0#32
  let c0_i32_21 : BitVec 32 := 0#32
  let c1_i32_22 : BitVec 32 := 1#32
  let arg25 : BitVec 32 := Scf.iv c0_i32_21 c1_i32_22 k0_t3
  let c128_i32 : BitVec 32 := 128#32
  let v259 : BitVec 32 := Scalar.muli arg25 c128_i32
  let v260 : BitVec 32 := v259
  let v261 : Index := Scalar.indexCast v260
  ![0, v261.toNat]
def k0_off9 (k0_t3 : Fin k0_t3_loop.trips) (c0_i32_199 : BitVec 32) : Fin 3 → Nat :=
  let c0_200 : Index := 0#32
  let c0_i32_21 : BitVec 32 := 0#32
  let c1_i32_22 : BitVec 32 := 1#32
  let arg25 : BitVec 32 := Scf.iv c0_i32_21 c1_i32_22 k0_t3
  let c4_i32_198 : BitVec 32 := 4#32
  let v282 : BitVec 32 := Scalar.muli arg25 c4_i32_198
  let v283 : BitVec 32 := Scalar.addi v282 c0_i32_199
  let v284 : Index := Scalar.indexCast v283
  let c0_201 : Index := 0#32
  ![0, v284.toNat, 0]
def k0_off10 (k0_t3 : Fin k0_t3_loop.trips) (c0_i32_205 : BitVec 32) : Fin 3 → Nat :=
  let c1_206 : Index := 1#32
  let c0_i32_21 : BitVec 32 := 0#32
  let c1_i32_22 : BitVec 32 := 1#32
  let arg25 : BitVec 32 := Scf.iv c0_i32_21 c1_i32_22 k0_t3
  let c4_i32_204 : BitVec 32 := 4#32
  let v300 : BitVec 32 := Scalar.muli arg25 c4_i32_204
  let v301 : BitVec 32 := Scalar.addi v300 c0_i32_205
  let v302 : Index := Scalar.indexCast v301
  let c0_207 : Index := 0#32
  ![1, v302.toNat, 0]
def k0_mult9 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_253 : BitVec 32 := 128#32
  let v434 : BitVec 32 := Scalar.muli arg25 c128_i32_253
  v434
def k0_mult10 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_316 : BitVec 32 := 128#32
  let v609 : BitVec 32 := Scalar.muli arg25 c128_i32_316
  v609
def k0_off11 (k0_t3 : Fin k0_t3_loop.trips) : Fin 2 → Nat :=
  let c256_317 : Index := 256#32
  let c0_i32_21 : BitVec 32 := 0#32
  let c1_i32_22 : BitVec 32 := 1#32
  let arg25 : BitVec 32 := Scf.iv c0_i32_21 c1_i32_22 k0_t3
  let c128_i32_316 : BitVec 32 := 128#32
  let v609 : BitVec 32 := Scalar.muli arg25 c128_i32_316
  let v610 : BitVec 32 := v609
  let v611 : Index := Scalar.indexCast v610
  ![256, v611.toNat]
def k0_off12 (k0_t3 : Fin k0_t3_loop.trips) (c0_i32_325 : BitVec 32) : Fin 3 → Nat :=
  let c0_326 : Index := 0#32
  let c0_i32_21 : BitVec 32 := 0#32
  let c1_i32_22 : BitVec 32 := 1#32
  let arg25 : BitVec 32 := Scf.iv c0_i32_21 c1_i32_22 k0_t3
  let c4_i32_324 : BitVec 32 := 4#32
  let v632 : BitVec 32 := Scalar.muli arg25 c4_i32_324
  let v633 : BitVec 32 := Scalar.addi v632 c0_i32_325
  let v634 : Index := Scalar.indexCast v633
  let c256_327 : Index := 256#32
  ![0, v634.toNat, 256]
def k0_off13 (k0_t3 : Fin k0_t3_loop.trips) (c0_i32_331 : BitVec 32) : Fin 3 → Nat :=
  let c1_332 : Index := 1#32
  let c0_i32_21 : BitVec 32 := 0#32
  let c1_i32_22 : BitVec 32 := 1#32
  let arg25 : BitVec 32 := Scf.iv c0_i32_21 c1_i32_22 k0_t3
  let c4_i32_330 : BitVec 32 := 4#32
  let v650 : BitVec 32 := Scalar.muli arg25 c4_i32_330
  let v651 : BitVec 32 := Scalar.addi v650 c0_i32_331
  let v652 : Index := Scalar.indexCast v651
  let c256_333 : Index := 256#32
  ![1, v652.toNat, 256]
def k0_mult11 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_379 : BitVec 32 := 128#32
  let v784 : BitVec 32 := Scalar.muli arg25 c128_i32_379
  v784
def k0_mult12 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_442 : BitVec 32 := 128#32
  let v959 : BitVec 32 := Scalar.muli arg25 c128_i32_442
  v959
def k0_off14 (k0_t3 : Fin k0_t3_loop.trips) : Fin 2 → Nat :=
  let c512_443 : Index := 512#32
  let c0_i32_21 : BitVec 32 := 0#32
  let c1_i32_22 : BitVec 32 := 1#32
  let arg25 : BitVec 32 := Scf.iv c0_i32_21 c1_i32_22 k0_t3
  let c128_i32_442 : BitVec 32 := 128#32
  let v959 : BitVec 32 := Scalar.muli arg25 c128_i32_442
  let v960 : BitVec 32 := v959
  let v961 : Index := Scalar.indexCast v960
  ![512, v961.toNat]
def k0_off15 (k0_t3 : Fin k0_t3_loop.trips) (c0_i32_451 : BitVec 32) : Fin 3 → Nat :=
  let c0_452 : Index := 0#32
  let c0_i32_21 : BitVec 32 := 0#32
  let c1_i32_22 : BitVec 32 := 1#32
  let arg25 : BitVec 32 := Scf.iv c0_i32_21 c1_i32_22 k0_t3
  let c4_i32_450 : BitVec 32 := 4#32
  let v982 : BitVec 32 := Scalar.muli arg25 c4_i32_450
  let v983 : BitVec 32 := Scalar.addi v982 c0_i32_451
  let v984 : Index := Scalar.indexCast v983
  let c512_453 : Index := 512#32
  ![0, v984.toNat, 512]
def k0_off16 (k0_t3 : Fin k0_t3_loop.trips) (c0_i32_457 : BitVec 32) : Fin 3 → Nat :=
  let c1_458 : Index := 1#32
  let c0_i32_21 : BitVec 32 := 0#32
  let c1_i32_22 : BitVec 32 := 1#32
  let arg25 : BitVec 32 := Scf.iv c0_i32_21 c1_i32_22 k0_t3
  let c4_i32_456 : BitVec 32 := 4#32
  let v1000 : BitVec 32 := Scalar.muli arg25 c4_i32_456
  let v1001 : BitVec 32 := Scalar.addi v1000 c0_i32_457
  let v1002 : Index := Scalar.indexCast v1001
  let c512_459 : Index := 512#32
  ![1, v1002.toNat, 512]
def k0_mult13 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_505 : BitVec 32 := 128#32
  let v1134 : BitVec 32 := Scalar.muli arg25 c128_i32_505
  v1134
def k0_mult14 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_568 : BitVec 32 := 128#32
  let v1309 : BitVec 32 := Scalar.muli arg25 c128_i32_568
  v1309
def k0_off17 (k0_t3 : Fin k0_t3_loop.trips) : Fin 2 → Nat :=
  let c768_569 : Index := 768#32
  let c0_i32_21 : BitVec 32 := 0#32
  let c1_i32_22 : BitVec 32 := 1#32
  let arg25 : BitVec 32 := Scf.iv c0_i32_21 c1_i32_22 k0_t3
  let c128_i32_568 : BitVec 32 := 128#32
  let v1309 : BitVec 32 := Scalar.muli arg25 c128_i32_568
  let v1310 : BitVec 32 := v1309
  let v1311 : Index := Scalar.indexCast v1310
  ![768, v1311.toNat]
def k0_off18 (k0_t3 : Fin k0_t3_loop.trips) (c0_i32_577 : BitVec 32) : Fin 3 → Nat :=
  let c0_578 : Index := 0#32
  let c0_i32_21 : BitVec 32 := 0#32
  let c1_i32_22 : BitVec 32 := 1#32
  let arg25 : BitVec 32 := Scf.iv c0_i32_21 c1_i32_22 k0_t3
  let c4_i32_576 : BitVec 32 := 4#32
  let v1332 : BitVec 32 := Scalar.muli arg25 c4_i32_576
  let v1333 : BitVec 32 := Scalar.addi v1332 c0_i32_577
  let v1334 : Index := Scalar.indexCast v1333
  let c768_579 : Index := 768#32
  ![0, v1334.toNat, 768]
def k0_off19 (k0_t3 : Fin k0_t3_loop.trips) (c0_i32_583 : BitVec 32) : Fin 3 → Nat :=
  let c1_584 : Index := 1#32
  let c0_i32_21 : BitVec 32 := 0#32
  let c1_i32_22 : BitVec 32 := 1#32
  let arg25 : BitVec 32 := Scf.iv c0_i32_21 c1_i32_22 k0_t3
  let c4_i32_582 : BitVec 32 := 4#32
  let v1350 : BitVec 32 := Scalar.muli arg25 c4_i32_582
  let v1351 : BitVec 32 := Scalar.addi v1350 c0_i32_583
  let v1352 : Index := Scalar.indexCast v1351
  let c768_585 : Index := 768#32
  ![1, v1352.toNat, 768]
def k0_mult15 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_631 : BitVec 32 := 128#32
  let v1484 : BitVec 32 := Scalar.muli arg25 c128_i32_631
  v1484
def k0_mult16 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_694 : BitVec 32 := 128#32
  let v1659 : BitVec 32 := Scalar.muli arg25 c128_i32_694
  v1659
def k0_off20 (k0_t3 : Fin k0_t3_loop.trips) : Fin 2 → Nat :=
  let c1024_695 : Index := 1024#32
  let c0_i32_21 : BitVec 32 := 0#32
  let c1_i32_22 : BitVec 32 := 1#32
  let arg25 : BitVec 32 := Scf.iv c0_i32_21 c1_i32_22 k0_t3
  let c128_i32_694 : BitVec 32 := 128#32
  let v1659 : BitVec 32 := Scalar.muli arg25 c128_i32_694
  let v1660 : BitVec 32 := v1659
  let v1661 : Index := Scalar.indexCast v1660
  ![1024, v1661.toNat]
def k0_off21 (k0_t3 : Fin k0_t3_loop.trips) (c0_i32_703 : BitVec 32) : Fin 3 → Nat :=
  let c0_704 : Index := 0#32
  let c0_i32_21 : BitVec 32 := 0#32
  let c1_i32_22 : BitVec 32 := 1#32
  let arg25 : BitVec 32 := Scf.iv c0_i32_21 c1_i32_22 k0_t3
  let c4_i32_702 : BitVec 32 := 4#32
  let v1682 : BitVec 32 := Scalar.muli arg25 c4_i32_702
  let v1683 : BitVec 32 := Scalar.addi v1682 c0_i32_703
  let v1684 : Index := Scalar.indexCast v1683
  let c1024_705 : Index := 1024#32
  ![0, v1684.toNat, 1024]
def k0_off22 (k0_t3 : Fin k0_t3_loop.trips) (c0_i32_709 : BitVec 32) : Fin 3 → Nat :=
  let c1_710 : Index := 1#32
  let c0_i32_21 : BitVec 32 := 0#32
  let c1_i32_22 : BitVec 32 := 1#32
  let arg25 : BitVec 32 := Scf.iv c0_i32_21 c1_i32_22 k0_t3
  let c4_i32_708 : BitVec 32 := 4#32
  let v1700 : BitVec 32 := Scalar.muli arg25 c4_i32_708
  let v1701 : BitVec 32 := Scalar.addi v1700 c0_i32_709
  let v1702 : Index := Scalar.indexCast v1701
  let c1024_711 : Index := 1024#32
  ![1, v1702.toNat, 1024]
def k0_mult17 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_757 : BitVec 32 := 128#32
  let v1834 : BitVec 32 := Scalar.muli arg25 c128_i32_757
  v1834
def k0_mult18 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_820 : BitVec 32 := 128#32
  let v2009 : BitVec 32 := Scalar.muli arg25 c128_i32_820
  v2009
def k0_off23 (k0_t3 : Fin k0_t3_loop.trips) : Fin 2 → Nat :=
  let c1280_821 : Index := 1280#32
  let c0_i32_21 : BitVec 32 := 0#32
  let c1_i32_22 : BitVec 32 := 1#32
  let arg25 : BitVec 32 := Scf.iv c0_i32_21 c1_i32_22 k0_t3
  let c128_i32_820 : BitVec 32 := 128#32
  let v2009 : BitVec 32 := Scalar.muli arg25 c128_i32_820
  let v2010 : BitVec 32 := v2009
  let v2011 : Index := Scalar.indexCast v2010
  ![1280, v2011.toNat]
def k0_off24 (k0_t3 : Fin k0_t3_loop.trips) (c0_i32_829 : BitVec 32) : Fin 3 → Nat :=
  let c0_830 : Index := 0#32
  let c0_i32_21 : BitVec 32 := 0#32
  let c1_i32_22 : BitVec 32 := 1#32
  let arg25 : BitVec 32 := Scf.iv c0_i32_21 c1_i32_22 k0_t3
  let c4_i32_828 : BitVec 32 := 4#32
  let v2032 : BitVec 32 := Scalar.muli arg25 c4_i32_828
  let v2033 : BitVec 32 := Scalar.addi v2032 c0_i32_829
  let v2034 : Index := Scalar.indexCast v2033
  let c1280_831 : Index := 1280#32
  ![0, v2034.toNat, 1280]
def k0_off25 (k0_t3 : Fin k0_t3_loop.trips) (c0_i32_835 : BitVec 32) : Fin 3 → Nat :=
  let c1_836 : Index := 1#32
  let c0_i32_21 : BitVec 32 := 0#32
  let c1_i32_22 : BitVec 32 := 1#32
  let arg25 : BitVec 32 := Scf.iv c0_i32_21 c1_i32_22 k0_t3
  let c4_i32_834 : BitVec 32 := 4#32
  let v2050 : BitVec 32 := Scalar.muli arg25 c4_i32_834
  let v2051 : BitVec 32 := Scalar.addi v2050 c0_i32_835
  let v2052 : Index := Scalar.indexCast v2051
  let c1280_837 : Index := 1280#32
  ![1, v2052.toNat, 1280]
def k0_mult19 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_883 : BitVec 32 := 128#32
  let v2184 : BitVec 32 := Scalar.muli arg25 c128_i32_883
  v2184
def k0_mult20 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_946 : BitVec 32 := 128#32
  let v2359 : BitVec 32 := Scalar.muli arg25 c128_i32_946
  v2359
def k0_off26 (k0_t3 : Fin k0_t3_loop.trips) : Fin 2 → Nat :=
  let c1536_947 : Index := 1536#32
  let c0_i32_21 : BitVec 32 := 0#32
  let c1_i32_22 : BitVec 32 := 1#32
  let arg25 : BitVec 32 := Scf.iv c0_i32_21 c1_i32_22 k0_t3
  let c128_i32_946 : BitVec 32 := 128#32
  let v2359 : BitVec 32 := Scalar.muli arg25 c128_i32_946
  let v2360 : BitVec 32 := v2359
  let v2361 : Index := Scalar.indexCast v2360
  ![1536, v2361.toNat]
def k0_off27 (k0_t3 : Fin k0_t3_loop.trips) (c0_i32_955 : BitVec 32) : Fin 3 → Nat :=
  let c0_956 : Index := 0#32
  let c0_i32_21 : BitVec 32 := 0#32
  let c1_i32_22 : BitVec 32 := 1#32
  let arg25 : BitVec 32 := Scf.iv c0_i32_21 c1_i32_22 k0_t3
  let c4_i32_954 : BitVec 32 := 4#32
  let v2382 : BitVec 32 := Scalar.muli arg25 c4_i32_954
  let v2383 : BitVec 32 := Scalar.addi v2382 c0_i32_955
  let v2384 : Index := Scalar.indexCast v2383
  let c1536_957 : Index := 1536#32
  ![0, v2384.toNat, 1536]
def k0_off28 (k0_t3 : Fin k0_t3_loop.trips) (c0_i32_961 : BitVec 32) : Fin 3 → Nat :=
  let c1_962 : Index := 1#32
  let c0_i32_21 : BitVec 32 := 0#32
  let c1_i32_22 : BitVec 32 := 1#32
  let arg25 : BitVec 32 := Scf.iv c0_i32_21 c1_i32_22 k0_t3
  let c4_i32_960 : BitVec 32 := 4#32
  let v2400 : BitVec 32 := Scalar.muli arg25 c4_i32_960
  let v2401 : BitVec 32 := Scalar.addi v2400 c0_i32_961
  let v2402 : Index := Scalar.indexCast v2401
  let c1536_963 : Index := 1536#32
  ![1, v2402.toNat, 1536]
def k0_mult21 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_1009 : BitVec 32 := 128#32
  let v2534 : BitVec 32 := Scalar.muli arg25 c128_i32_1009
  v2534
def k0_mult22 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_1072 : BitVec 32 := 128#32
  let v2709 : BitVec 32 := Scalar.muli arg25 c128_i32_1072
  v2709
def k0_off29 (k0_t3 : Fin k0_t3_loop.trips) : Fin 2 → Nat :=
  let c1792_1073 : Index := 1792#32
  let c0_i32_21 : BitVec 32 := 0#32
  let c1_i32_22 : BitVec 32 := 1#32
  let arg25 : BitVec 32 := Scf.iv c0_i32_21 c1_i32_22 k0_t3
  let c128_i32_1072 : BitVec 32 := 128#32
  let v2709 : BitVec 32 := Scalar.muli arg25 c128_i32_1072
  let v2710 : BitVec 32 := v2709
  let v2711 : Index := Scalar.indexCast v2710
  ![1792, v2711.toNat]
def k0_off30 (k0_t3 : Fin k0_t3_loop.trips) (c0_i32_1081 : BitVec 32) : Fin 3 → Nat :=
  let c0_1082 : Index := 0#32
  let c0_i32_21 : BitVec 32 := 0#32
  let c1_i32_22 : BitVec 32 := 1#32
  let arg25 : BitVec 32 := Scf.iv c0_i32_21 c1_i32_22 k0_t3
  let c4_i32_1080 : BitVec 32 := 4#32
  let v2732 : BitVec 32 := Scalar.muli arg25 c4_i32_1080
  let v2733 : BitVec 32 := Scalar.addi v2732 c0_i32_1081
  let v2734 : Index := Scalar.indexCast v2733
  let c1792_1083 : Index := 1792#32
  ![0, v2734.toNat, 1792]
def k0_off31 (k0_t3 : Fin k0_t3_loop.trips) (c0_i32_1087 : BitVec 32) : Fin 3 → Nat :=
  let c1_1088 : Index := 1#32
  let c0_i32_21 : BitVec 32 := 0#32
  let c1_i32_22 : BitVec 32 := 1#32
  let arg25 : BitVec 32 := Scf.iv c0_i32_21 c1_i32_22 k0_t3
  let c4_i32_1086 : BitVec 32 := 4#32
  let v2750 : BitVec 32 := Scalar.muli arg25 c4_i32_1086
  let v2751 : BitVec 32 := Scalar.addi v2750 c0_i32_1087
  let v2752 : Index := Scalar.indexCast v2751
  let c1792_1089 : Index := 1792#32
  ![1, v2752.toNat, 1792]
def k0_mult23 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_1135 : BitVec 32 := 128#32
  let v2884 : BitVec 32 := Scalar.muli arg25 c128_i32_1135
  v2884
def k0_mult24 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_1198 : BitVec 32 := 128#32
  let v3059 : BitVec 32 := Scalar.muli arg25 c128_i32_1198
  v3059
def k0_off32 (k0_t3 : Fin k0_t3_loop.trips) : Fin 2 → Nat :=
  let c2048_1199 : Index := 2048#32
  let c0_i32_21 : BitVec 32 := 0#32
  let c1_i32_22 : BitVec 32 := 1#32
  let arg25 : BitVec 32 := Scf.iv c0_i32_21 c1_i32_22 k0_t3
  let c128_i32_1198 : BitVec 32 := 128#32
  let v3059 : BitVec 32 := Scalar.muli arg25 c128_i32_1198
  let v3060 : BitVec 32 := v3059
  let v3061 : Index := Scalar.indexCast v3060
  ![2048, v3061.toNat]
def k0_off33 (k0_t3 : Fin k0_t3_loop.trips) (c0_i32_1207 : BitVec 32) : Fin 3 → Nat :=
  let c0_1208 : Index := 0#32
  let c0_i32_21 : BitVec 32 := 0#32
  let c1_i32_22 : BitVec 32 := 1#32
  let arg25 : BitVec 32 := Scf.iv c0_i32_21 c1_i32_22 k0_t3
  let c4_i32_1206 : BitVec 32 := 4#32
  let v3082 : BitVec 32 := Scalar.muli arg25 c4_i32_1206
  let v3083 : BitVec 32 := Scalar.addi v3082 c0_i32_1207
  let v3084 : Index := Scalar.indexCast v3083
  let c2048_1209 : Index := 2048#32
  ![0, v3084.toNat, 2048]
def k0_off34 (k0_t3 : Fin k0_t3_loop.trips) (c0_i32_1213 : BitVec 32) : Fin 3 → Nat :=
  let c1_1214 : Index := 1#32
  let c0_i32_21 : BitVec 32 := 0#32
  let c1_i32_22 : BitVec 32 := 1#32
  let arg25 : BitVec 32 := Scf.iv c0_i32_21 c1_i32_22 k0_t3
  let c4_i32_1212 : BitVec 32 := 4#32
  let v3100 : BitVec 32 := Scalar.muli arg25 c4_i32_1212
  let v3101 : BitVec 32 := Scalar.addi v3100 c0_i32_1213
  let v3102 : Index := Scalar.indexCast v3101
  let c2048_1215 : Index := 2048#32
  ![1, v3102.toNat, 2048]
def k0_mult25 (k0_t3 : Fin k0_t3_loop.trips) : BitVec 32 :=
  let c0_i32_21 : BitVec 32 := 0#32
  let c1_i32_22 : BitVec 32 := 1#32
  let arg25 : BitVec 32 := Scf.iv c0_i32_21 c1_i32_22 k0_t3
  let c128_i32_1261 : BitVec 32 := 128#32
  let v3234 : BitVec 32 := Scalar.muli arg25 c128_i32_1261
  v3234
@[reducible] def k0_t4_loop : Scf.Loop 32 :=
  let c0_i32_81 : BitVec 32 := 0#32
  let c56_i32 : BitVec 32 := 56#32
  let v136 : BitVec 32 := Scalar.addi c0_i32_81 c56_i32
  let c1_i32_82 : BitVec 32 := 1#32
  ⟨c0_i32_81, v136, c1_i32_82⟩
def k0_mult26 (k0_t4 : Fin k0_t4_loop.trips) : BitVec 32 :=
  let c0_i32_81 : BitVec 32 := 0#32
  let c1_i32_82 : BitVec 32 := 1#32
  let arg25 : BitVec 32 := Scf.iv c0_i32_81 c1_i32_82 k0_t4
  let c128_i32 : BitVec 32 := 128#32
  let v252 : BitVec 32 := Scalar.muli arg25 c128_i32
  v252
def k0_off35 (k0_t4 : Fin k0_t4_loop.trips) : Fin 2 → Nat :=
  let c0_i32_81 : BitVec 32 := 0#32
  let c1_i32_82 : BitVec 32 := 1#32
  let arg25 : BitVec 32 := Scf.iv c0_i32_81 c1_i32_82 k0_t4
  let c128_i32 : BitVec 32 := 128#32
  let v252 : BitVec 32 := Scalar.muli arg25 c128_i32
  let v253 : BitVec 32 := v252
  let v254 : Index := Scalar.indexCast v253
  let c0_190 : Index := 0#32
  ![v254.toNat, 0]
def k0_mult27 (k0_t4 : Fin k0_t4_loop.trips) : BitVec 32 :=
  let c0_i32_81 : BitVec 32 := 0#32
  let c1_i32_82 : BitVec 32 := 1#32
  let arg25 : BitVec 32 := Scf.iv c0_i32_81 c1_i32_82 k0_t4
  let c128_i32_199 : BitVec 32 := 128#32
  let v295 : BitVec 32 := Scalar.muli arg25 c128_i32_199
  v295
def k0_off36 (k0_t4 : Fin k0_t4_loop.trips) : Fin 3 → Nat :=
  let c0_200 : Index := 0#32
  let c0_201 : Index := 0#32
  let c0_i32_81 : BitVec 32 := 0#32
  let c1_i32_82 : BitVec 32 := 1#32
  let arg25 : BitVec 32 := Scf.iv c0_i32_81 c1_i32_82 k0_t4
  let c128_i32_199 : BitVec 32 := 128#32
  let v295 : BitVec 32 := Scalar.muli arg25 c128_i32_199
  let v296 : BitVec 32 := v295
  let v297 : Index := Scalar.indexCast v296
  ![0, 0, v297.toNat]
def k0_mult28 (k0_t4 : Fin k0_t4_loop.trips) : BitVec 32 :=
  let c0_i32_81 : BitVec 32 := 0#32
  let c1_i32_82 : BitVec 32 := 1#32
  let arg25 : BitVec 32 := Scf.iv c0_i32_81 c1_i32_82 k0_t4
  let c128_i32_217 : BitVec 32 := 128#32
  let v340 : BitVec 32 := Scalar.muli arg25 c128_i32_217
  v340
def k0_off37 (k0_t4 : Fin k0_t4_loop.trips) : Fin 3 → Nat :=
  let c1_218 : Index := 1#32
  let c0_219 : Index := 0#32
  let c0_i32_81 : BitVec 32 := 0#32
  let c1_i32_82 : BitVec 32 := 1#32
  let arg25 : BitVec 32 := Scf.iv c0_i32_81 c1_i32_82 k0_t4
  let c128_i32_217 : BitVec 32 := 128#32
  let v340 : BitVec 32 := Scalar.muli arg25 c128_i32_217
  let v341 : BitVec 32 := v340
  let v342 : Index := Scalar.indexCast v341
  ![1, 0, v342.toNat]
@[reducible] def k0_t5_loop : Scf.Loop 32 :=
  let c0_i32_85 : BitVec 32 := 0#32
  let c9_i32 : BitVec 32 := 9#32
  let v139 : BitVec 32 := Scalar.addi c0_i32_85 c9_i32
  let c1_i32_86 : BitVec 32 := 1#32
  ⟨c0_i32_85, v139, c1_i32_86⟩
def k0_mult29 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c256_i32 : BitVec 32 := 256#32
  let v252 : BitVec 32 := Scalar.muli arg25 c256_i32
  v252
def k0_off38 (k0_t5 : Fin k0_t5_loop.trips) : Fin 2 → Nat :=
  let c0_190 : Index := 0#32
  let c0_i32_85 : BitVec 32 := 0#32
  let c1_i32_86 : BitVec 32 := 1#32
  let arg25 : BitVec 32 := Scf.iv c0_i32_85 c1_i32_86 k0_t5
  let c256_i32 : BitVec 32 := 256#32
  let v252 : BitVec 32 := Scalar.muli arg25 c256_i32
  let v253 : BitVec 32 := v252
  let v254 : Index := Scalar.indexCast v253
  ![0, v254.toNat]
def k0_mult30 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32 : BitVec 32 := 128#32
  let v258 : BitVec 32 := Scalar.muli arg25 c128_i32
  v258
def k0_off39 (k0_t5 : Fin k0_t5_loop.trips) : Fin 2 → Nat :=
  let c0_194 : Index := 0#32
  let c0_i32_85 : BitVec 32 := 0#32
  let c1_i32_86 : BitVec 32 := 1#32
  let arg25 : BitVec 32 := Scf.iv c0_i32_85 c1_i32_86 k0_t5
  let c128_i32 : BitVec 32 := 128#32
  let v258 : BitVec 32 := Scalar.muli arg25 c128_i32
  let v259 : BitVec 32 := v258
  let v260 : Index := Scalar.indexCast v259
  ![0, v260.toNat]
def k0_off40 (k0_t5 : Fin k0_t5_loop.trips) (c0_i32_199 : BitVec 32) : Fin 3 → Nat :=
  let c0_200 : Index := 0#32
  let c0_i32_85 : BitVec 32 := 0#32
  let c1_i32_86 : BitVec 32 := 1#32
  let arg25 : BitVec 32 := Scf.iv c0_i32_85 c1_i32_86 k0_t5
  let c4_i32_198 : BitVec 32 := 4#32
  let v281 : BitVec 32 := Scalar.muli arg25 c4_i32_198
  let v282 : BitVec 32 := Scalar.addi v281 c0_i32_199
  let v283 : Index := Scalar.indexCast v282
  let c0_201 : Index := 0#32
  ![0, v283.toNat, 0]
def k0_off41 (k0_t5 : Fin k0_t5_loop.trips) (c0_i32_205 : BitVec 32) : Fin 3 → Nat :=
  let c1_206 : Index := 1#32
  let c0_i32_85 : BitVec 32 := 0#32
  let c1_i32_86 : BitVec 32 := 1#32
  let arg25 : BitVec 32 := Scf.iv c0_i32_85 c1_i32_86 k0_t5
  let c4_i32_204 : BitVec 32 := 4#32
  let v299 : BitVec 32 := Scalar.muli arg25 c4_i32_204
  let v300 : BitVec 32 := Scalar.addi v299 c0_i32_205
  let v301 : Index := Scalar.indexCast v300
  let c0_207 : Index := 0#32
  ![1, v301.toNat, 0]
def k0_mult31 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_253 : BitVec 32 := 128#32
  let v433 : BitVec 32 := Scalar.muli arg25 c128_i32_253
  v433
def k0_off42 (k0_t5 : Fin k0_t5_loop.trips) : Fin 2 → Nat :=
  let c256_254 : Index := 256#32
  let c0_i32_85 : BitVec 32 := 0#32
  let c1_i32_86 : BitVec 32 := 1#32
  let arg25 : BitVec 32 := Scf.iv c0_i32_85 c1_i32_86 k0_t5
  let c128_i32_253 : BitVec 32 := 128#32
  let v433 : BitVec 32 := Scalar.muli arg25 c128_i32_253
  let v434 : BitVec 32 := v433
  let v435 : Index := Scalar.indexCast v434
  ![256, v435.toNat]
def k0_off43 (k0_t5 : Fin k0_t5_loop.trips) (c0_i32_262 : BitVec 32) : Fin 3 → Nat :=
  let c0_263 : Index := 0#32
  let c0_i32_85 : BitVec 32 := 0#32
  let c1_i32_86 : BitVec 32 := 1#32
  let arg25 : BitVec 32 := Scf.iv c0_i32_85 c1_i32_86 k0_t5
  let c4_i32_261 : BitVec 32 := 4#32
  let v456 : BitVec 32 := Scalar.muli arg25 c4_i32_261
  let v457 : BitVec 32 := Scalar.addi v456 c0_i32_262
  let v458 : Index := Scalar.indexCast v457
  let c256_264 : Index := 256#32
  ![0, v458.toNat, 256]
def k0_off44 (k0_t5 : Fin k0_t5_loop.trips) (c0_i32_268 : BitVec 32) : Fin 3 → Nat :=
  let c1_269 : Index := 1#32
  let c0_i32_85 : BitVec 32 := 0#32
  let c1_i32_86 : BitVec 32 := 1#32
  let arg25 : BitVec 32 := Scf.iv c0_i32_85 c1_i32_86 k0_t5
  let c4_i32_267 : BitVec 32 := 4#32
  let v474 : BitVec 32 := Scalar.muli arg25 c4_i32_267
  let v475 : BitVec 32 := Scalar.addi v474 c0_i32_268
  let v476 : Index := Scalar.indexCast v475
  let c256_270 : Index := 256#32
  ![1, v476.toNat, 256]
def k0_mult32 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_316 : BitVec 32 := 128#32
  let v608 : BitVec 32 := Scalar.muli arg25 c128_i32_316
  v608
def k0_off45 (k0_t5 : Fin k0_t5_loop.trips) : Fin 2 → Nat :=
  let c512_317 : Index := 512#32
  let c0_i32_85 : BitVec 32 := 0#32
  let c1_i32_86 : BitVec 32 := 1#32
  let arg25 : BitVec 32 := Scf.iv c0_i32_85 c1_i32_86 k0_t5
  let c128_i32_316 : BitVec 32 := 128#32
  let v608 : BitVec 32 := Scalar.muli arg25 c128_i32_316
  let v609 : BitVec 32 := v608
  let v610 : Index := Scalar.indexCast v609
  ![512, v610.toNat]
def k0_off46 (k0_t5 : Fin k0_t5_loop.trips) (c0_i32_325 : BitVec 32) : Fin 3 → Nat :=
  let c0_326 : Index := 0#32
  let c0_i32_85 : BitVec 32 := 0#32
  let c1_i32_86 : BitVec 32 := 1#32
  let arg25 : BitVec 32 := Scf.iv c0_i32_85 c1_i32_86 k0_t5
  let c4_i32_324 : BitVec 32 := 4#32
  let v631 : BitVec 32 := Scalar.muli arg25 c4_i32_324
  let v632 : BitVec 32 := Scalar.addi v631 c0_i32_325
  let v633 : Index := Scalar.indexCast v632
  let c512_327 : Index := 512#32
  ![0, v633.toNat, 512]
def k0_off47 (k0_t5 : Fin k0_t5_loop.trips) (c0_i32_331 : BitVec 32) : Fin 3 → Nat :=
  let c1_332 : Index := 1#32
  let c0_i32_85 : BitVec 32 := 0#32
  let c1_i32_86 : BitVec 32 := 1#32
  let arg25 : BitVec 32 := Scf.iv c0_i32_85 c1_i32_86 k0_t5
  let c4_i32_330 : BitVec 32 := 4#32
  let v649 : BitVec 32 := Scalar.muli arg25 c4_i32_330
  let v650 : BitVec 32 := Scalar.addi v649 c0_i32_331
  let v651 : Index := Scalar.indexCast v650
  let c512_333 : Index := 512#32
  ![1, v651.toNat, 512]
def k0_mult33 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_379 : BitVec 32 := 128#32
  let v783 : BitVec 32 := Scalar.muli arg25 c128_i32_379
  v783
def k0_off48 (k0_t5 : Fin k0_t5_loop.trips) : Fin 2 → Nat :=
  let c768_380 : Index := 768#32
  let c0_i32_85 : BitVec 32 := 0#32
  let c1_i32_86 : BitVec 32 := 1#32
  let arg25 : BitVec 32 := Scf.iv c0_i32_85 c1_i32_86 k0_t5
  let c128_i32_379 : BitVec 32 := 128#32
  let v783 : BitVec 32 := Scalar.muli arg25 c128_i32_379
  let v784 : BitVec 32 := v783
  let v785 : Index := Scalar.indexCast v784
  ![768, v785.toNat]
def k0_off49 (k0_t5 : Fin k0_t5_loop.trips) (c0_i32_388 : BitVec 32) : Fin 3 → Nat :=
  let c0_389 : Index := 0#32
  let c0_i32_85 : BitVec 32 := 0#32
  let c1_i32_86 : BitVec 32 := 1#32
  let arg25 : BitVec 32 := Scf.iv c0_i32_85 c1_i32_86 k0_t5
  let c4_i32_387 : BitVec 32 := 4#32
  let v806 : BitVec 32 := Scalar.muli arg25 c4_i32_387
  let v807 : BitVec 32 := Scalar.addi v806 c0_i32_388
  let v808 : Index := Scalar.indexCast v807
  let c768_390 : Index := 768#32
  ![0, v808.toNat, 768]
def k0_off50 (k0_t5 : Fin k0_t5_loop.trips) (c0_i32_394 : BitVec 32) : Fin 3 → Nat :=
  let c1_395 : Index := 1#32
  let c0_i32_85 : BitVec 32 := 0#32
  let c1_i32_86 : BitVec 32 := 1#32
  let arg25 : BitVec 32 := Scf.iv c0_i32_85 c1_i32_86 k0_t5
  let c4_i32_393 : BitVec 32 := 4#32
  let v824 : BitVec 32 := Scalar.muli arg25 c4_i32_393
  let v825 : BitVec 32 := Scalar.addi v824 c0_i32_394
  let v826 : Index := Scalar.indexCast v825
  let c768_396 : Index := 768#32
  ![1, v826.toNat, 768]
def k0_mult34 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_442 : BitVec 32 := 128#32
  let v958 : BitVec 32 := Scalar.muli arg25 c128_i32_442
  v958
def k0_off51 (k0_t5 : Fin k0_t5_loop.trips) : Fin 2 → Nat :=
  let c1024_443 : Index := 1024#32
  let c0_i32_85 : BitVec 32 := 0#32
  let c1_i32_86 : BitVec 32 := 1#32
  let arg25 : BitVec 32 := Scf.iv c0_i32_85 c1_i32_86 k0_t5
  let c128_i32_442 : BitVec 32 := 128#32
  let v958 : BitVec 32 := Scalar.muli arg25 c128_i32_442
  let v959 : BitVec 32 := v958
  let v960 : Index := Scalar.indexCast v959
  ![1024, v960.toNat]
def k0_off52 (k0_t5 : Fin k0_t5_loop.trips) (c0_i32_451 : BitVec 32) : Fin 3 → Nat :=
  let c0_452 : Index := 0#32
  let c0_i32_85 : BitVec 32 := 0#32
  let c1_i32_86 : BitVec 32 := 1#32
  let arg25 : BitVec 32 := Scf.iv c0_i32_85 c1_i32_86 k0_t5
  let c4_i32_450 : BitVec 32 := 4#32
  let v981 : BitVec 32 := Scalar.muli arg25 c4_i32_450
  let v982 : BitVec 32 := Scalar.addi v981 c0_i32_451
  let v983 : Index := Scalar.indexCast v982
  let c1024_453 : Index := 1024#32
  ![0, v983.toNat, 1024]
def k0_off53 (k0_t5 : Fin k0_t5_loop.trips) (c0_i32_457 : BitVec 32) : Fin 3 → Nat :=
  let c1_458 : Index := 1#32
  let c0_i32_85 : BitVec 32 := 0#32
  let c1_i32_86 : BitVec 32 := 1#32
  let arg25 : BitVec 32 := Scf.iv c0_i32_85 c1_i32_86 k0_t5
  let c4_i32_456 : BitVec 32 := 4#32
  let v999 : BitVec 32 := Scalar.muli arg25 c4_i32_456
  let v1000 : BitVec 32 := Scalar.addi v999 c0_i32_457
  let v1001 : Index := Scalar.indexCast v1000
  let c1024_459 : Index := 1024#32
  ![1, v1001.toNat, 1024]
def k0_mult35 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_505 : BitVec 32 := 128#32
  let v1133 : BitVec 32 := Scalar.muli arg25 c128_i32_505
  v1133
def k0_off54 (k0_t5 : Fin k0_t5_loop.trips) : Fin 2 → Nat :=
  let c1280_506 : Index := 1280#32
  let c0_i32_85 : BitVec 32 := 0#32
  let c1_i32_86 : BitVec 32 := 1#32
  let arg25 : BitVec 32 := Scf.iv c0_i32_85 c1_i32_86 k0_t5
  let c128_i32_505 : BitVec 32 := 128#32
  let v1133 : BitVec 32 := Scalar.muli arg25 c128_i32_505
  let v1134 : BitVec 32 := v1133
  let v1135 : Index := Scalar.indexCast v1134
  ![1280, v1135.toNat]
def k0_off55 (k0_t5 : Fin k0_t5_loop.trips) (c0_i32_514 : BitVec 32) : Fin 3 → Nat :=
  let c0_515 : Index := 0#32
  let c0_i32_85 : BitVec 32 := 0#32
  let c1_i32_86 : BitVec 32 := 1#32
  let arg25 : BitVec 32 := Scf.iv c0_i32_85 c1_i32_86 k0_t5
  let c4_i32_513 : BitVec 32 := 4#32
  let v1156 : BitVec 32 := Scalar.muli arg25 c4_i32_513
  let v1157 : BitVec 32 := Scalar.addi v1156 c0_i32_514
  let v1158 : Index := Scalar.indexCast v1157
  let c1280_516 : Index := 1280#32
  ![0, v1158.toNat, 1280]
def k0_off56 (k0_t5 : Fin k0_t5_loop.trips) (c0_i32_520 : BitVec 32) : Fin 3 → Nat :=
  let c1_521 : Index := 1#32
  let c0_i32_85 : BitVec 32 := 0#32
  let c1_i32_86 : BitVec 32 := 1#32
  let arg25 : BitVec 32 := Scf.iv c0_i32_85 c1_i32_86 k0_t5
  let c4_i32_519 : BitVec 32 := 4#32
  let v1174 : BitVec 32 := Scalar.muli arg25 c4_i32_519
  let v1175 : BitVec 32 := Scalar.addi v1174 c0_i32_520
  let v1176 : Index := Scalar.indexCast v1175
  let c1280_522 : Index := 1280#32
  ![1, v1176.toNat, 1280]
def k0_mult36 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_568 : BitVec 32 := 128#32
  let v1308 : BitVec 32 := Scalar.muli arg25 c128_i32_568
  v1308
def k0_off57 (k0_t5 : Fin k0_t5_loop.trips) : Fin 2 → Nat :=
  let c1536_569 : Index := 1536#32
  let c0_i32_85 : BitVec 32 := 0#32
  let c1_i32_86 : BitVec 32 := 1#32
  let arg25 : BitVec 32 := Scf.iv c0_i32_85 c1_i32_86 k0_t5
  let c128_i32_568 : BitVec 32 := 128#32
  let v1308 : BitVec 32 := Scalar.muli arg25 c128_i32_568
  let v1309 : BitVec 32 := v1308
  let v1310 : Index := Scalar.indexCast v1309
  ![1536, v1310.toNat]
def k0_off58 (k0_t5 : Fin k0_t5_loop.trips) (c0_i32_577 : BitVec 32) : Fin 3 → Nat :=
  let c0_578 : Index := 0#32
  let c0_i32_85 : BitVec 32 := 0#32
  let c1_i32_86 : BitVec 32 := 1#32
  let arg25 : BitVec 32 := Scf.iv c0_i32_85 c1_i32_86 k0_t5
  let c4_i32_576 : BitVec 32 := 4#32
  let v1331 : BitVec 32 := Scalar.muli arg25 c4_i32_576
  let v1332 : BitVec 32 := Scalar.addi v1331 c0_i32_577
  let v1333 : Index := Scalar.indexCast v1332
  let c1536_579 : Index := 1536#32
  ![0, v1333.toNat, 1536]
def k0_off59 (k0_t5 : Fin k0_t5_loop.trips) (c0_i32_583 : BitVec 32) : Fin 3 → Nat :=
  let c1_584 : Index := 1#32
  let c0_i32_85 : BitVec 32 := 0#32
  let c1_i32_86 : BitVec 32 := 1#32
  let arg25 : BitVec 32 := Scf.iv c0_i32_85 c1_i32_86 k0_t5
  let c4_i32_582 : BitVec 32 := 4#32
  let v1349 : BitVec 32 := Scalar.muli arg25 c4_i32_582
  let v1350 : BitVec 32 := Scalar.addi v1349 c0_i32_583
  let v1351 : Index := Scalar.indexCast v1350
  let c1536_585 : Index := 1536#32
  ![1, v1351.toNat, 1536]
def k0_mult37 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_631 : BitVec 32 := 128#32
  let v1483 : BitVec 32 := Scalar.muli arg25 c128_i32_631
  v1483
def k0_off60 (k0_t5 : Fin k0_t5_loop.trips) : Fin 2 → Nat :=
  let c1792_632 : Index := 1792#32
  let c0_i32_85 : BitVec 32 := 0#32
  let c1_i32_86 : BitVec 32 := 1#32
  let arg25 : BitVec 32 := Scf.iv c0_i32_85 c1_i32_86 k0_t5
  let c128_i32_631 : BitVec 32 := 128#32
  let v1483 : BitVec 32 := Scalar.muli arg25 c128_i32_631
  let v1484 : BitVec 32 := v1483
  let v1485 : Index := Scalar.indexCast v1484
  ![1792, v1485.toNat]
def k0_off61 (k0_t5 : Fin k0_t5_loop.trips) (c0_i32_640 : BitVec 32) : Fin 3 → Nat :=
  let c0_641 : Index := 0#32
  let c0_i32_85 : BitVec 32 := 0#32
  let c1_i32_86 : BitVec 32 := 1#32
  let arg25 : BitVec 32 := Scf.iv c0_i32_85 c1_i32_86 k0_t5
  let c4_i32_639 : BitVec 32 := 4#32
  let v1506 : BitVec 32 := Scalar.muli arg25 c4_i32_639
  let v1507 : BitVec 32 := Scalar.addi v1506 c0_i32_640
  let v1508 : Index := Scalar.indexCast v1507
  let c1792_642 : Index := 1792#32
  ![0, v1508.toNat, 1792]
def k0_off62 (k0_t5 : Fin k0_t5_loop.trips) (c0_i32_646 : BitVec 32) : Fin 3 → Nat :=
  let c1_647 : Index := 1#32
  let c0_i32_85 : BitVec 32 := 0#32
  let c1_i32_86 : BitVec 32 := 1#32
  let arg25 : BitVec 32 := Scf.iv c0_i32_85 c1_i32_86 k0_t5
  let c4_i32_645 : BitVec 32 := 4#32
  let v1524 : BitVec 32 := Scalar.muli arg25 c4_i32_645
  let v1525 : BitVec 32 := Scalar.addi v1524 c0_i32_646
  let v1526 : Index := Scalar.indexCast v1525
  let c1792_648 : Index := 1792#32
  ![1, v1526.toNat, 1792]
def k0_mult38 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_694 : BitVec 32 := 128#32
  let v1658 : BitVec 32 := Scalar.muli arg25 c128_i32_694
  v1658
def k0_off63 (k0_t5 : Fin k0_t5_loop.trips) : Fin 2 → Nat :=
  let c2048_695 : Index := 2048#32
  let c0_i32_85 : BitVec 32 := 0#32
  let c1_i32_86 : BitVec 32 := 1#32
  let arg25 : BitVec 32 := Scf.iv c0_i32_85 c1_i32_86 k0_t5
  let c128_i32_694 : BitVec 32 := 128#32
  let v1658 : BitVec 32 := Scalar.muli arg25 c128_i32_694
  let v1659 : BitVec 32 := v1658
  let v1660 : Index := Scalar.indexCast v1659
  ![2048, v1660.toNat]
def k0_off64 (k0_t5 : Fin k0_t5_loop.trips) (c0_i32_703 : BitVec 32) : Fin 3 → Nat :=
  let c0_704 : Index := 0#32
  let c0_i32_85 : BitVec 32 := 0#32
  let c1_i32_86 : BitVec 32 := 1#32
  let arg25 : BitVec 32 := Scf.iv c0_i32_85 c1_i32_86 k0_t5
  let c4_i32_702 : BitVec 32 := 4#32
  let v1681 : BitVec 32 := Scalar.muli arg25 c4_i32_702
  let v1682 : BitVec 32 := Scalar.addi v1681 c0_i32_703
  let v1683 : Index := Scalar.indexCast v1682
  let c2048_705 : Index := 2048#32
  ![0, v1683.toNat, 2048]
def k0_off65 (k0_t5 : Fin k0_t5_loop.trips) (c0_i32_709 : BitVec 32) : Fin 3 → Nat :=
  let c1_710 : Index := 1#32
  let c0_i32_85 : BitVec 32 := 0#32
  let c1_i32_86 : BitVec 32 := 1#32
  let arg25 : BitVec 32 := Scf.iv c0_i32_85 c1_i32_86 k0_t5
  let c4_i32_708 : BitVec 32 := 4#32
  let v1699 : BitVec 32 := Scalar.muli arg25 c4_i32_708
  let v1700 : BitVec 32 := Scalar.addi v1699 c0_i32_709
  let v1701 : Index := Scalar.indexCast v1700
  let c2048_711 : Index := 2048#32
  ![1, v1701.toNat, 2048]
def k0_mult39 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_757 : BitVec 32 := 128#32
  let v1833 : BitVec 32 := Scalar.muli arg25 c128_i32_757
  v1833
def k0_off66 (k0_t5 : Fin k0_t5_loop.trips) : Fin 2 → Nat :=
  let c2304_758 : Index := 2304#32
  let c0_i32_85 : BitVec 32 := 0#32
  let c1_i32_86 : BitVec 32 := 1#32
  let arg25 : BitVec 32 := Scf.iv c0_i32_85 c1_i32_86 k0_t5
  let c128_i32_757 : BitVec 32 := 128#32
  let v1833 : BitVec 32 := Scalar.muli arg25 c128_i32_757
  let v1834 : BitVec 32 := v1833
  let v1835 : Index := Scalar.indexCast v1834
  ![2304, v1835.toNat]
def k0_off67 (k0_t5 : Fin k0_t5_loop.trips) (c0_i32_766 : BitVec 32) : Fin 3 → Nat :=
  let c0_767 : Index := 0#32
  let c0_i32_85 : BitVec 32 := 0#32
  let c1_i32_86 : BitVec 32 := 1#32
  let arg25 : BitVec 32 := Scf.iv c0_i32_85 c1_i32_86 k0_t5
  let c4_i32_765 : BitVec 32 := 4#32
  let v1856 : BitVec 32 := Scalar.muli arg25 c4_i32_765
  let v1857 : BitVec 32 := Scalar.addi v1856 c0_i32_766
  let v1858 : Index := Scalar.indexCast v1857
  let c2304_768 : Index := 2304#32
  ![0, v1858.toNat, 2304]
def k0_off68 (k0_t5 : Fin k0_t5_loop.trips) (c0_i32_772 : BitVec 32) : Fin 3 → Nat :=
  let c1_773 : Index := 1#32
  let c0_i32_85 : BitVec 32 := 0#32
  let c1_i32_86 : BitVec 32 := 1#32
  let arg25 : BitVec 32 := Scf.iv c0_i32_85 c1_i32_86 k0_t5
  let c4_i32_771 : BitVec 32 := 4#32
  let v1874 : BitVec 32 := Scalar.muli arg25 c4_i32_771
  let v1875 : BitVec 32 := Scalar.addi v1874 c0_i32_772
  let v1876 : Index := Scalar.indexCast v1875
  let c2304_774 : Index := 2304#32
  ![1, v1876.toNat, 2304]
def k0_mult40 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_820 : BitVec 32 := 128#32
  let v2008 : BitVec 32 := Scalar.muli arg25 c128_i32_820
  v2008
def k0_off69 (k0_t5 : Fin k0_t5_loop.trips) : Fin 2 → Nat :=
  let c2560_821 : Index := 2560#32
  let c0_i32_85 : BitVec 32 := 0#32
  let c1_i32_86 : BitVec 32 := 1#32
  let arg25 : BitVec 32 := Scf.iv c0_i32_85 c1_i32_86 k0_t5
  let c128_i32_820 : BitVec 32 := 128#32
  let v2008 : BitVec 32 := Scalar.muli arg25 c128_i32_820
  let v2009 : BitVec 32 := v2008
  let v2010 : Index := Scalar.indexCast v2009
  ![2560, v2010.toNat]
def k0_off70 (k0_t5 : Fin k0_t5_loop.trips) (c0_i32_829 : BitVec 32) : Fin 3 → Nat :=
  let c0_830 : Index := 0#32
  let c0_i32_85 : BitVec 32 := 0#32
  let c1_i32_86 : BitVec 32 := 1#32
  let arg25 : BitVec 32 := Scf.iv c0_i32_85 c1_i32_86 k0_t5
  let c4_i32_828 : BitVec 32 := 4#32
  let v2031 : BitVec 32 := Scalar.muli arg25 c4_i32_828
  let v2032 : BitVec 32 := Scalar.addi v2031 c0_i32_829
  let v2033 : Index := Scalar.indexCast v2032
  let c2560_831 : Index := 2560#32
  ![0, v2033.toNat, 2560]
def k0_off71 (k0_t5 : Fin k0_t5_loop.trips) (c0_i32_835 : BitVec 32) : Fin 3 → Nat :=
  let c1_836 : Index := 1#32
  let c0_i32_85 : BitVec 32 := 0#32
  let c1_i32_86 : BitVec 32 := 1#32
  let arg25 : BitVec 32 := Scf.iv c0_i32_85 c1_i32_86 k0_t5
  let c4_i32_834 : BitVec 32 := 4#32
  let v2049 : BitVec 32 := Scalar.muli arg25 c4_i32_834
  let v2050 : BitVec 32 := Scalar.addi v2049 c0_i32_835
  let v2051 : Index := Scalar.indexCast v2050
  let c2560_837 : Index := 2560#32
  ![1, v2051.toNat, 2560]
def k0_mult41 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_883 : BitVec 32 := 128#32
  let v2183 : BitVec 32 := Scalar.muli arg25 c128_i32_883
  v2183
def k0_off72 (k0_t5 : Fin k0_t5_loop.trips) : Fin 2 → Nat :=
  let c2816_884 : Index := 2816#32
  let c0_i32_85 : BitVec 32 := 0#32
  let c1_i32_86 : BitVec 32 := 1#32
  let arg25 : BitVec 32 := Scf.iv c0_i32_85 c1_i32_86 k0_t5
  let c128_i32_883 : BitVec 32 := 128#32
  let v2183 : BitVec 32 := Scalar.muli arg25 c128_i32_883
  let v2184 : BitVec 32 := v2183
  let v2185 : Index := Scalar.indexCast v2184
  ![2816, v2185.toNat]
def k0_off73 (k0_t5 : Fin k0_t5_loop.trips) (c0_i32_892 : BitVec 32) : Fin 3 → Nat :=
  let c0_893 : Index := 0#32
  let c0_i32_85 : BitVec 32 := 0#32
  let c1_i32_86 : BitVec 32 := 1#32
  let arg25 : BitVec 32 := Scf.iv c0_i32_85 c1_i32_86 k0_t5
  let c4_i32_891 : BitVec 32 := 4#32
  let v2206 : BitVec 32 := Scalar.muli arg25 c4_i32_891
  let v2207 : BitVec 32 := Scalar.addi v2206 c0_i32_892
  let v2208 : Index := Scalar.indexCast v2207
  let c2816_894 : Index := 2816#32
  ![0, v2208.toNat, 2816]
def k0_off74 (k0_t5 : Fin k0_t5_loop.trips) (c0_i32_898 : BitVec 32) : Fin 3 → Nat :=
  let c1_899 : Index := 1#32
  let c0_i32_85 : BitVec 32 := 0#32
  let c1_i32_86 : BitVec 32 := 1#32
  let arg25 : BitVec 32 := Scf.iv c0_i32_85 c1_i32_86 k0_t5
  let c4_i32_897 : BitVec 32 := 4#32
  let v2224 : BitVec 32 := Scalar.muli arg25 c4_i32_897
  let v2225 : BitVec 32 := Scalar.addi v2224 c0_i32_898
  let v2226 : Index := Scalar.indexCast v2225
  let c2816_900 : Index := 2816#32
  ![1, v2226.toNat, 2816]
def k0_mult42 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_946 : BitVec 32 := 128#32
  let v2358 : BitVec 32 := Scalar.muli arg25 c128_i32_946
  v2358
def k0_off75 (k0_t5 : Fin k0_t5_loop.trips) : Fin 2 → Nat :=
  let c3072_947 : Index := 3072#32
  let c0_i32_85 : BitVec 32 := 0#32
  let c1_i32_86 : BitVec 32 := 1#32
  let arg25 : BitVec 32 := Scf.iv c0_i32_85 c1_i32_86 k0_t5
  let c128_i32_946 : BitVec 32 := 128#32
  let v2358 : BitVec 32 := Scalar.muli arg25 c128_i32_946
  let v2359 : BitVec 32 := v2358
  let v2360 : Index := Scalar.indexCast v2359
  ![3072, v2360.toNat]
def k0_off76 (k0_t5 : Fin k0_t5_loop.trips) (c0_i32_955 : BitVec 32) : Fin 3 → Nat :=
  let c0_956 : Index := 0#32
  let c0_i32_85 : BitVec 32 := 0#32
  let c1_i32_86 : BitVec 32 := 1#32
  let arg25 : BitVec 32 := Scf.iv c0_i32_85 c1_i32_86 k0_t5
  let c4_i32_954 : BitVec 32 := 4#32
  let v2381 : BitVec 32 := Scalar.muli arg25 c4_i32_954
  let v2382 : BitVec 32 := Scalar.addi v2381 c0_i32_955
  let v2383 : Index := Scalar.indexCast v2382
  let c3072_957 : Index := 3072#32
  ![0, v2383.toNat, 3072]
def k0_off77 (k0_t5 : Fin k0_t5_loop.trips) (c0_i32_961 : BitVec 32) : Fin 3 → Nat :=
  let c1_962 : Index := 1#32
  let c0_i32_85 : BitVec 32 := 0#32
  let c1_i32_86 : BitVec 32 := 1#32
  let arg25 : BitVec 32 := Scf.iv c0_i32_85 c1_i32_86 k0_t5
  let c4_i32_960 : BitVec 32 := 4#32
  let v2399 : BitVec 32 := Scalar.muli arg25 c4_i32_960
  let v2400 : BitVec 32 := Scalar.addi v2399 c0_i32_961
  let v2401 : Index := Scalar.indexCast v2400
  let c3072_963 : Index := 3072#32
  ![1, v2401.toNat, 3072]
def k0_mult43 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1009 : BitVec 32 := 128#32
  let v2533 : BitVec 32 := Scalar.muli arg25 c128_i32_1009
  v2533
def k0_off78 (k0_t5 : Fin k0_t5_loop.trips) : Fin 2 → Nat :=
  let c3328_1010 : Index := 3328#32
  let c0_i32_85 : BitVec 32 := 0#32
  let c1_i32_86 : BitVec 32 := 1#32
  let arg25 : BitVec 32 := Scf.iv c0_i32_85 c1_i32_86 k0_t5
  let c128_i32_1009 : BitVec 32 := 128#32
  let v2533 : BitVec 32 := Scalar.muli arg25 c128_i32_1009
  let v2534 : BitVec 32 := v2533
  let v2535 : Index := Scalar.indexCast v2534
  ![3328, v2535.toNat]
def k0_off79 (k0_t5 : Fin k0_t5_loop.trips) (c0_i32_1018 : BitVec 32) : Fin 3 → Nat :=
  let c0_1019 : Index := 0#32
  let c0_i32_85 : BitVec 32 := 0#32
  let c1_i32_86 : BitVec 32 := 1#32
  let arg25 : BitVec 32 := Scf.iv c0_i32_85 c1_i32_86 k0_t5
  let c4_i32_1017 : BitVec 32 := 4#32
  let v2556 : BitVec 32 := Scalar.muli arg25 c4_i32_1017
  let v2557 : BitVec 32 := Scalar.addi v2556 c0_i32_1018
  let v2558 : Index := Scalar.indexCast v2557
  let c3328_1020 : Index := 3328#32
  ![0, v2558.toNat, 3328]
def k0_off80 (k0_t5 : Fin k0_t5_loop.trips) (c0_i32_1024 : BitVec 32) : Fin 3 → Nat :=
  let c1_1025 : Index := 1#32
  let c0_i32_85 : BitVec 32 := 0#32
  let c1_i32_86 : BitVec 32 := 1#32
  let arg25 : BitVec 32 := Scf.iv c0_i32_85 c1_i32_86 k0_t5
  let c4_i32_1023 : BitVec 32 := 4#32
  let v2574 : BitVec 32 := Scalar.muli arg25 c4_i32_1023
  let v2575 : BitVec 32 := Scalar.addi v2574 c0_i32_1024
  let v2576 : Index := Scalar.indexCast v2575
  let c3328_1026 : Index := 3328#32
  ![1, v2576.toNat, 3328]
def k0_mult44 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1072 : BitVec 32 := 128#32
  let v2708 : BitVec 32 := Scalar.muli arg25 c128_i32_1072
  v2708
def k0_off81 (k0_t5 : Fin k0_t5_loop.trips) : Fin 2 → Nat :=
  let c3584_1073 : Index := 3584#32
  let c0_i32_85 : BitVec 32 := 0#32
  let c1_i32_86 : BitVec 32 := 1#32
  let arg25 : BitVec 32 := Scf.iv c0_i32_85 c1_i32_86 k0_t5
  let c128_i32_1072 : BitVec 32 := 128#32
  let v2708 : BitVec 32 := Scalar.muli arg25 c128_i32_1072
  let v2709 : BitVec 32 := v2708
  let v2710 : Index := Scalar.indexCast v2709
  ![3584, v2710.toNat]
def k0_off82 (k0_t5 : Fin k0_t5_loop.trips) (c0_i32_1081 : BitVec 32) : Fin 3 → Nat :=
  let c0_1082 : Index := 0#32
  let c0_i32_85 : BitVec 32 := 0#32
  let c1_i32_86 : BitVec 32 := 1#32
  let arg25 : BitVec 32 := Scf.iv c0_i32_85 c1_i32_86 k0_t5
  let c4_i32_1080 : BitVec 32 := 4#32
  let v2731 : BitVec 32 := Scalar.muli arg25 c4_i32_1080
  let v2732 : BitVec 32 := Scalar.addi v2731 c0_i32_1081
  let v2733 : Index := Scalar.indexCast v2732
  let c3584_1083 : Index := 3584#32
  ![0, v2733.toNat, 3584]
def k0_off83 (k0_t5 : Fin k0_t5_loop.trips) (c0_i32_1087 : BitVec 32) : Fin 3 → Nat :=
  let c1_1088 : Index := 1#32
  let c0_i32_85 : BitVec 32 := 0#32
  let c1_i32_86 : BitVec 32 := 1#32
  let arg25 : BitVec 32 := Scf.iv c0_i32_85 c1_i32_86 k0_t5
  let c4_i32_1086 : BitVec 32 := 4#32
  let v2749 : BitVec 32 := Scalar.muli arg25 c4_i32_1086
  let v2750 : BitVec 32 := Scalar.addi v2749 c0_i32_1087
  let v2751 : Index := Scalar.indexCast v2750
  let c3584_1089 : Index := 3584#32
  ![1, v2751.toNat, 3584]
def k0_mult45 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1135 : BitVec 32 := 128#32
  let v2883 : BitVec 32 := Scalar.muli arg25 c128_i32_1135
  v2883
def k0_off84 (k0_t5 : Fin k0_t5_loop.trips) : Fin 2 → Nat :=
  let c3840_1136 : Index := 3840#32
  let c0_i32_85 : BitVec 32 := 0#32
  let c1_i32_86 : BitVec 32 := 1#32
  let arg25 : BitVec 32 := Scf.iv c0_i32_85 c1_i32_86 k0_t5
  let c128_i32_1135 : BitVec 32 := 128#32
  let v2883 : BitVec 32 := Scalar.muli arg25 c128_i32_1135
  let v2884 : BitVec 32 := v2883
  let v2885 : Index := Scalar.indexCast v2884
  ![3840, v2885.toNat]
def k0_off85 (k0_t5 : Fin k0_t5_loop.trips) (c0_i32_1144 : BitVec 32) : Fin 3 → Nat :=
  let c0_1145 : Index := 0#32
  let c0_i32_85 : BitVec 32 := 0#32
  let c1_i32_86 : BitVec 32 := 1#32
  let arg25 : BitVec 32 := Scf.iv c0_i32_85 c1_i32_86 k0_t5
  let c4_i32_1143 : BitVec 32 := 4#32
  let v2906 : BitVec 32 := Scalar.muli arg25 c4_i32_1143
  let v2907 : BitVec 32 := Scalar.addi v2906 c0_i32_1144
  let v2908 : Index := Scalar.indexCast v2907
  let c3840_1146 : Index := 3840#32
  ![0, v2908.toNat, 3840]
def k0_off86 (k0_t5 : Fin k0_t5_loop.trips) (c0_i32_1150 : BitVec 32) : Fin 3 → Nat :=
  let c1_1151 : Index := 1#32
  let c0_i32_85 : BitVec 32 := 0#32
  let c1_i32_86 : BitVec 32 := 1#32
  let arg25 : BitVec 32 := Scf.iv c0_i32_85 c1_i32_86 k0_t5
  let c4_i32_1149 : BitVec 32 := 4#32
  let v2924 : BitVec 32 := Scalar.muli arg25 c4_i32_1149
  let v2925 : BitVec 32 := Scalar.addi v2924 c0_i32_1150
  let v2926 : Index := Scalar.indexCast v2925
  let c3840_1152 : Index := 3840#32
  ![1, v2926.toNat, 3840]
def k0_mult46 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1198 : BitVec 32 := 128#32
  let v3058 : BitVec 32 := Scalar.muli arg25 c128_i32_1198
  v3058
def k0_off87 (k0_t5 : Fin k0_t5_loop.trips) : Fin 2 → Nat :=
  let c4096_1199 : Index := 4096#32
  let c0_i32_85 : BitVec 32 := 0#32
  let c1_i32_86 : BitVec 32 := 1#32
  let arg25 : BitVec 32 := Scf.iv c0_i32_85 c1_i32_86 k0_t5
  let c128_i32_1198 : BitVec 32 := 128#32
  let v3058 : BitVec 32 := Scalar.muli arg25 c128_i32_1198
  let v3059 : BitVec 32 := v3058
  let v3060 : Index := Scalar.indexCast v3059
  ![4096, v3060.toNat]
def k0_off88 (k0_t5 : Fin k0_t5_loop.trips) (c0_i32_1207 : BitVec 32) : Fin 3 → Nat :=
  let c0_1208 : Index := 0#32
  let c0_i32_85 : BitVec 32 := 0#32
  let c1_i32_86 : BitVec 32 := 1#32
  let arg25 : BitVec 32 := Scf.iv c0_i32_85 c1_i32_86 k0_t5
  let c4_i32_1206 : BitVec 32 := 4#32
  let v3081 : BitVec 32 := Scalar.muli arg25 c4_i32_1206
  let v3082 : BitVec 32 := Scalar.addi v3081 c0_i32_1207
  let v3083 : Index := Scalar.indexCast v3082
  let c4096_1209 : Index := 4096#32
  ![0, v3083.toNat, 4096]
def k0_off89 (k0_t5 : Fin k0_t5_loop.trips) (c0_i32_1213 : BitVec 32) : Fin 3 → Nat :=
  let c1_1214 : Index := 1#32
  let c0_i32_85 : BitVec 32 := 0#32
  let c1_i32_86 : BitVec 32 := 1#32
  let arg25 : BitVec 32 := Scf.iv c0_i32_85 c1_i32_86 k0_t5
  let c4_i32_1212 : BitVec 32 := 4#32
  let v3099 : BitVec 32 := Scalar.muli arg25 c4_i32_1212
  let v3100 : BitVec 32 := Scalar.addi v3099 c0_i32_1213
  let v3101 : Index := Scalar.indexCast v3100
  let c4096_1215 : Index := 4096#32
  ![1, v3101.toNat, 4096]
def k0_mult47 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1261 : BitVec 32 := 128#32
  let v3233 : BitVec 32 := Scalar.muli arg25 c128_i32_1261
  v3233
def k0_off90 (k0_t5 : Fin k0_t5_loop.trips) : Fin 2 → Nat :=
  let c4352_1262 : Index := 4352#32
  let c0_i32_85 : BitVec 32 := 0#32
  let c1_i32_86 : BitVec 32 := 1#32
  let arg25 : BitVec 32 := Scf.iv c0_i32_85 c1_i32_86 k0_t5
  let c128_i32_1261 : BitVec 32 := 128#32
  let v3233 : BitVec 32 := Scalar.muli arg25 c128_i32_1261
  let v3234 : BitVec 32 := v3233
  let v3235 : Index := Scalar.indexCast v3234
  ![4352, v3235.toNat]
def k0_off91 (k0_t5 : Fin k0_t5_loop.trips) (c0_i32_1270 : BitVec 32) : Fin 3 → Nat :=
  let c0_1271 : Index := 0#32
  let c0_i32_85 : BitVec 32 := 0#32
  let c1_i32_86 : BitVec 32 := 1#32
  let arg25 : BitVec 32 := Scf.iv c0_i32_85 c1_i32_86 k0_t5
  let c4_i32_1269 : BitVec 32 := 4#32
  let v3256 : BitVec 32 := Scalar.muli arg25 c4_i32_1269
  let v3257 : BitVec 32 := Scalar.addi v3256 c0_i32_1270
  let v3258 : Index := Scalar.indexCast v3257
  let c4352_1272 : Index := 4352#32
  ![0, v3258.toNat, 4352]
def k0_off92 (k0_t5 : Fin k0_t5_loop.trips) (c0_i32_1276 : BitVec 32) : Fin 3 → Nat :=
  let c1_1277 : Index := 1#32
  let c0_i32_85 : BitVec 32 := 0#32
  let c1_i32_86 : BitVec 32 := 1#32
  let arg25 : BitVec 32 := Scf.iv c0_i32_85 c1_i32_86 k0_t5
  let c4_i32_1275 : BitVec 32 := 4#32
  let v3274 : BitVec 32 := Scalar.muli arg25 c4_i32_1275
  let v3275 : BitVec 32 := Scalar.addi v3274 c0_i32_1276
  let v3276 : Index := Scalar.indexCast v3275
  let c4352_1278 : Index := 4352#32
  ![1, v3276.toNat, 4352]
def k0_mult48 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1324 : BitVec 32 := 128#32
  let v3408 : BitVec 32 := Scalar.muli arg25 c128_i32_1324
  v3408
def k0_off93 (k0_t5 : Fin k0_t5_loop.trips) : Fin 2 → Nat :=
  let c4608_1325 : Index := 4608#32
  let c0_i32_85 : BitVec 32 := 0#32
  let c1_i32_86 : BitVec 32 := 1#32
  let arg25 : BitVec 32 := Scf.iv c0_i32_85 c1_i32_86 k0_t5
  let c128_i32_1324 : BitVec 32 := 128#32
  let v3408 : BitVec 32 := Scalar.muli arg25 c128_i32_1324
  let v3409 : BitVec 32 := v3408
  let v3410 : Index := Scalar.indexCast v3409
  ![4608, v3410.toNat]
def k0_off94 (k0_t5 : Fin k0_t5_loop.trips) (c0_i32_1333 : BitVec 32) : Fin 3 → Nat :=
  let c0_1334 : Index := 0#32
  let c0_i32_85 : BitVec 32 := 0#32
  let c1_i32_86 : BitVec 32 := 1#32
  let arg25 : BitVec 32 := Scf.iv c0_i32_85 c1_i32_86 k0_t5
  let c4_i32_1332 : BitVec 32 := 4#32
  let v3431 : BitVec 32 := Scalar.muli arg25 c4_i32_1332
  let v3432 : BitVec 32 := Scalar.addi v3431 c0_i32_1333
  let v3433 : Index := Scalar.indexCast v3432
  let c4608_1335 : Index := 4608#32
  ![0, v3433.toNat, 4608]
def k0_off95 (k0_t5 : Fin k0_t5_loop.trips) (c0_i32_1339 : BitVec 32) : Fin 3 → Nat :=
  let c1_1340 : Index := 1#32
  let c0_i32_85 : BitVec 32 := 0#32
  let c1_i32_86 : BitVec 32 := 1#32
  let arg25 : BitVec 32 := Scf.iv c0_i32_85 c1_i32_86 k0_t5
  let c4_i32_1338 : BitVec 32 := 4#32
  let v3449 : BitVec 32 := Scalar.muli arg25 c4_i32_1338
  let v3450 : BitVec 32 := Scalar.addi v3449 c0_i32_1339
  let v3451 : Index := Scalar.indexCast v3450
  let c4608_1341 : Index := 4608#32
  ![1, v3451.toNat, 4608]
def k0_mult49 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1387 : BitVec 32 := 128#32
  let v3583 : BitVec 32 := Scalar.muli arg25 c128_i32_1387
  v3583
def k0_off96 (k0_t5 : Fin k0_t5_loop.trips) : Fin 2 → Nat :=
  let c4864_1388 : Index := 4864#32
  let c0_i32_85 : BitVec 32 := 0#32
  let c1_i32_86 : BitVec 32 := 1#32
  let arg25 : BitVec 32 := Scf.iv c0_i32_85 c1_i32_86 k0_t5
  let c128_i32_1387 : BitVec 32 := 128#32
  let v3583 : BitVec 32 := Scalar.muli arg25 c128_i32_1387
  let v3584 : BitVec 32 := v3583
  let v3585 : Index := Scalar.indexCast v3584
  ![4864, v3585.toNat]
def k0_off97 (k0_t5 : Fin k0_t5_loop.trips) (c0_i32_1396 : BitVec 32) : Fin 3 → Nat :=
  let c0_1397 : Index := 0#32
  let c0_i32_85 : BitVec 32 := 0#32
  let c1_i32_86 : BitVec 32 := 1#32
  let arg25 : BitVec 32 := Scf.iv c0_i32_85 c1_i32_86 k0_t5
  let c4_i32_1395 : BitVec 32 := 4#32
  let v3606 : BitVec 32 := Scalar.muli arg25 c4_i32_1395
  let v3607 : BitVec 32 := Scalar.addi v3606 c0_i32_1396
  let v3608 : Index := Scalar.indexCast v3607
  let c4864_1398 : Index := 4864#32
  ![0, v3608.toNat, 4864]
def k0_off98 (k0_t5 : Fin k0_t5_loop.trips) (c0_i32_1402 : BitVec 32) : Fin 3 → Nat :=
  let c1_1403 : Index := 1#32
  let c0_i32_85 : BitVec 32 := 0#32
  let c1_i32_86 : BitVec 32 := 1#32
  let arg25 : BitVec 32 := Scf.iv c0_i32_85 c1_i32_86 k0_t5
  let c4_i32_1401 : BitVec 32 := 4#32
  let v3624 : BitVec 32 := Scalar.muli arg25 c4_i32_1401
  let v3625 : BitVec 32 := Scalar.addi v3624 c0_i32_1402
  let v3626 : Index := Scalar.indexCast v3625
  let c4864_1404 : Index := 4864#32
  ![1, v3626.toNat, 4864]
def k0_mult50 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1450 : BitVec 32 := 128#32
  let v3758 : BitVec 32 := Scalar.muli arg25 c128_i32_1450
  v3758
def k0_off99 (k0_t5 : Fin k0_t5_loop.trips) : Fin 2 → Nat :=
  let c5120_1451 : Index := 5120#32
  let c0_i32_85 : BitVec 32 := 0#32
  let c1_i32_86 : BitVec 32 := 1#32
  let arg25 : BitVec 32 := Scf.iv c0_i32_85 c1_i32_86 k0_t5
  let c128_i32_1450 : BitVec 32 := 128#32
  let v3758 : BitVec 32 := Scalar.muli arg25 c128_i32_1450
  let v3759 : BitVec 32 := v3758
  let v3760 : Index := Scalar.indexCast v3759
  ![5120, v3760.toNat]
def k0_off100 (k0_t5 : Fin k0_t5_loop.trips) (c0_i32_1459 : BitVec 32) : Fin 3 → Nat :=
  let c0_1460 : Index := 0#32
  let c0_i32_85 : BitVec 32 := 0#32
  let c1_i32_86 : BitVec 32 := 1#32
  let arg25 : BitVec 32 := Scf.iv c0_i32_85 c1_i32_86 k0_t5
  let c4_i32_1458 : BitVec 32 := 4#32
  let v3781 : BitVec 32 := Scalar.muli arg25 c4_i32_1458
  let v3782 : BitVec 32 := Scalar.addi v3781 c0_i32_1459
  let v3783 : Index := Scalar.indexCast v3782
  let c5120_1461 : Index := 5120#32
  ![0, v3783.toNat, 5120]
def k0_off101 (k0_t5 : Fin k0_t5_loop.trips) (c0_i32_1465 : BitVec 32) : Fin 3 → Nat :=
  let c1_1466 : Index := 1#32
  let c0_i32_85 : BitVec 32 := 0#32
  let c1_i32_86 : BitVec 32 := 1#32
  let arg25 : BitVec 32 := Scf.iv c0_i32_85 c1_i32_86 k0_t5
  let c4_i32_1464 : BitVec 32 := 4#32
  let v3799 : BitVec 32 := Scalar.muli arg25 c4_i32_1464
  let v3800 : BitVec 32 := Scalar.addi v3799 c0_i32_1465
  let v3801 : Index := Scalar.indexCast v3800
  let c5120_1467 : Index := 5120#32
  ![1, v3801.toNat, 5120]
def k0_mult51 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1513 : BitVec 32 := 128#32
  let v3933 : BitVec 32 := Scalar.muli arg25 c128_i32_1513
  v3933
def k0_off102 (k0_t5 : Fin k0_t5_loop.trips) : Fin 2 → Nat :=
  let c5376_1514 : Index := 5376#32
  let c0_i32_85 : BitVec 32 := 0#32
  let c1_i32_86 : BitVec 32 := 1#32
  let arg25 : BitVec 32 := Scf.iv c0_i32_85 c1_i32_86 k0_t5
  let c128_i32_1513 : BitVec 32 := 128#32
  let v3933 : BitVec 32 := Scalar.muli arg25 c128_i32_1513
  let v3934 : BitVec 32 := v3933
  let v3935 : Index := Scalar.indexCast v3934
  ![5376, v3935.toNat]
def k0_off103 (k0_t5 : Fin k0_t5_loop.trips) (c0_i32_1522 : BitVec 32) : Fin 3 → Nat :=
  let c0_1523 : Index := 0#32
  let c0_i32_85 : BitVec 32 := 0#32
  let c1_i32_86 : BitVec 32 := 1#32
  let arg25 : BitVec 32 := Scf.iv c0_i32_85 c1_i32_86 k0_t5
  let c4_i32_1521 : BitVec 32 := 4#32
  let v3956 : BitVec 32 := Scalar.muli arg25 c4_i32_1521
  let v3957 : BitVec 32 := Scalar.addi v3956 c0_i32_1522
  let v3958 : Index := Scalar.indexCast v3957
  let c5376_1524 : Index := 5376#32
  ![0, v3958.toNat, 5376]
def k0_off104 (k0_t5 : Fin k0_t5_loop.trips) (c0_i32_1528 : BitVec 32) : Fin 3 → Nat :=
  let c1_1529 : Index := 1#32
  let c0_i32_85 : BitVec 32 := 0#32
  let c1_i32_86 : BitVec 32 := 1#32
  let arg25 : BitVec 32 := Scf.iv c0_i32_85 c1_i32_86 k0_t5
  let c4_i32_1527 : BitVec 32 := 4#32
  let v3974 : BitVec 32 := Scalar.muli arg25 c4_i32_1527
  let v3975 : BitVec 32 := Scalar.addi v3974 c0_i32_1528
  let v3976 : Index := Scalar.indexCast v3975
  let c5376_1530 : Index := 5376#32
  ![1, v3976.toNat, 5376]
def k0_mult52 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1576 : BitVec 32 := 128#32
  let v4108 : BitVec 32 := Scalar.muli arg25 c128_i32_1576
  v4108
def k0_off105 (k0_t5 : Fin k0_t5_loop.trips) : Fin 2 → Nat :=
  let c5632_1577 : Index := 5632#32
  let c0_i32_85 : BitVec 32 := 0#32
  let c1_i32_86 : BitVec 32 := 1#32
  let arg25 : BitVec 32 := Scf.iv c0_i32_85 c1_i32_86 k0_t5
  let c128_i32_1576 : BitVec 32 := 128#32
  let v4108 : BitVec 32 := Scalar.muli arg25 c128_i32_1576
  let v4109 : BitVec 32 := v4108
  let v4110 : Index := Scalar.indexCast v4109
  ![5632, v4110.toNat]
def k0_off106 (k0_t5 : Fin k0_t5_loop.trips) (c0_i32_1585 : BitVec 32) : Fin 3 → Nat :=
  let c0_1586 : Index := 0#32
  let c0_i32_85 : BitVec 32 := 0#32
  let c1_i32_86 : BitVec 32 := 1#32
  let arg25 : BitVec 32 := Scf.iv c0_i32_85 c1_i32_86 k0_t5
  let c4_i32_1584 : BitVec 32 := 4#32
  let v4131 : BitVec 32 := Scalar.muli arg25 c4_i32_1584
  let v4132 : BitVec 32 := Scalar.addi v4131 c0_i32_1585
  let v4133 : Index := Scalar.indexCast v4132
  let c5632_1587 : Index := 5632#32
  ![0, v4133.toNat, 5632]
def k0_off107 (k0_t5 : Fin k0_t5_loop.trips) (c0_i32_1591 : BitVec 32) : Fin 3 → Nat :=
  let c1_1592 : Index := 1#32
  let c0_i32_85 : BitVec 32 := 0#32
  let c1_i32_86 : BitVec 32 := 1#32
  let arg25 : BitVec 32 := Scf.iv c0_i32_85 c1_i32_86 k0_t5
  let c4_i32_1590 : BitVec 32 := 4#32
  let v4149 : BitVec 32 := Scalar.muli arg25 c4_i32_1590
  let v4150 : BitVec 32 := Scalar.addi v4149 c0_i32_1591
  let v4151 : Index := Scalar.indexCast v4150
  let c5632_1593 : Index := 5632#32
  ![1, v4151.toNat, 5632]
def k0_mult53 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1639 : BitVec 32 := 128#32
  let v4283 : BitVec 32 := Scalar.muli arg25 c128_i32_1639
  v4283
def k0_off108 (k0_t5 : Fin k0_t5_loop.trips) : Fin 2 → Nat :=
  let c5888_1640 : Index := 5888#32
  let c0_i32_85 : BitVec 32 := 0#32
  let c1_i32_86 : BitVec 32 := 1#32
  let arg25 : BitVec 32 := Scf.iv c0_i32_85 c1_i32_86 k0_t5
  let c128_i32_1639 : BitVec 32 := 128#32
  let v4283 : BitVec 32 := Scalar.muli arg25 c128_i32_1639
  let v4284 : BitVec 32 := v4283
  let v4285 : Index := Scalar.indexCast v4284
  ![5888, v4285.toNat]
def k0_off109 (k0_t5 : Fin k0_t5_loop.trips) (c0_i32_1648 : BitVec 32) : Fin 3 → Nat :=
  let c0_1649 : Index := 0#32
  let c0_i32_85 : BitVec 32 := 0#32
  let c1_i32_86 : BitVec 32 := 1#32
  let arg25 : BitVec 32 := Scf.iv c0_i32_85 c1_i32_86 k0_t5
  let c4_i32_1647 : BitVec 32 := 4#32
  let v4306 : BitVec 32 := Scalar.muli arg25 c4_i32_1647
  let v4307 : BitVec 32 := Scalar.addi v4306 c0_i32_1648
  let v4308 : Index := Scalar.indexCast v4307
  let c5888_1650 : Index := 5888#32
  ![0, v4308.toNat, 5888]
def k0_off110 (k0_t5 : Fin k0_t5_loop.trips) (c0_i32_1654 : BitVec 32) : Fin 3 → Nat :=
  let c1_1655 : Index := 1#32
  let c0_i32_85 : BitVec 32 := 0#32
  let c1_i32_86 : BitVec 32 := 1#32
  let arg25 : BitVec 32 := Scf.iv c0_i32_85 c1_i32_86 k0_t5
  let c4_i32_1653 : BitVec 32 := 4#32
  let v4324 : BitVec 32 := Scalar.muli arg25 c4_i32_1653
  let v4325 : BitVec 32 := Scalar.addi v4324 c0_i32_1654
  let v4326 : Index := Scalar.indexCast v4325
  let c5888_1656 : Index := 5888#32
  ![1, v4326.toNat, 5888]
def k0_mult54 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1702 : BitVec 32 := 128#32
  let v4458 : BitVec 32 := Scalar.muli arg25 c128_i32_1702
  v4458
def k0_off111 (k0_t5 : Fin k0_t5_loop.trips) : Fin 2 → Nat :=
  let c6144_1703 : Index := 6144#32
  let c0_i32_85 : BitVec 32 := 0#32
  let c1_i32_86 : BitVec 32 := 1#32
  let arg25 : BitVec 32 := Scf.iv c0_i32_85 c1_i32_86 k0_t5
  let c128_i32_1702 : BitVec 32 := 128#32
  let v4458 : BitVec 32 := Scalar.muli arg25 c128_i32_1702
  let v4459 : BitVec 32 := v4458
  let v4460 : Index := Scalar.indexCast v4459
  ![6144, v4460.toNat]
def k0_off112 (k0_t5 : Fin k0_t5_loop.trips) (c0_i32_1711 : BitVec 32) : Fin 3 → Nat :=
  let c0_1712 : Index := 0#32
  let c0_i32_85 : BitVec 32 := 0#32
  let c1_i32_86 : BitVec 32 := 1#32
  let arg25 : BitVec 32 := Scf.iv c0_i32_85 c1_i32_86 k0_t5
  let c4_i32_1710 : BitVec 32 := 4#32
  let v4481 : BitVec 32 := Scalar.muli arg25 c4_i32_1710
  let v4482 : BitVec 32 := Scalar.addi v4481 c0_i32_1711
  let v4483 : Index := Scalar.indexCast v4482
  let c6144_1713 : Index := 6144#32
  ![0, v4483.toNat, 6144]
def k0_off113 (k0_t5 : Fin k0_t5_loop.trips) (c0_i32_1717 : BitVec 32) : Fin 3 → Nat :=
  let c1_1718 : Index := 1#32
  let c0_i32_85 : BitVec 32 := 0#32
  let c1_i32_86 : BitVec 32 := 1#32
  let arg25 : BitVec 32 := Scf.iv c0_i32_85 c1_i32_86 k0_t5
  let c4_i32_1716 : BitVec 32 := 4#32
  let v4499 : BitVec 32 := Scalar.muli arg25 c4_i32_1716
  let v4500 : BitVec 32 := Scalar.addi v4499 c0_i32_1717
  let v4501 : Index := Scalar.indexCast v4500
  let c6144_1719 : Index := 6144#32
  ![1, v4501.toNat, 6144]
def k0_mult55 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1765 : BitVec 32 := 128#32
  let v4633 : BitVec 32 := Scalar.muli arg25 c128_i32_1765
  v4633
def k0_off114 (k0_t5 : Fin k0_t5_loop.trips) : Fin 2 → Nat :=
  let c6400_1766 : Index := 6400#32
  let c0_i32_85 : BitVec 32 := 0#32
  let c1_i32_86 : BitVec 32 := 1#32
  let arg25 : BitVec 32 := Scf.iv c0_i32_85 c1_i32_86 k0_t5
  let c128_i32_1765 : BitVec 32 := 128#32
  let v4633 : BitVec 32 := Scalar.muli arg25 c128_i32_1765
  let v4634 : BitVec 32 := v4633
  let v4635 : Index := Scalar.indexCast v4634
  ![6400, v4635.toNat]
def k0_off115 (k0_t5 : Fin k0_t5_loop.trips) (c0_i32_1774 : BitVec 32) : Fin 3 → Nat :=
  let c0_1775 : Index := 0#32
  let c0_i32_85 : BitVec 32 := 0#32
  let c1_i32_86 : BitVec 32 := 1#32
  let arg25 : BitVec 32 := Scf.iv c0_i32_85 c1_i32_86 k0_t5
  let c4_i32_1773 : BitVec 32 := 4#32
  let v4656 : BitVec 32 := Scalar.muli arg25 c4_i32_1773
  let v4657 : BitVec 32 := Scalar.addi v4656 c0_i32_1774
  let v4658 : Index := Scalar.indexCast v4657
  let c6400_1776 : Index := 6400#32
  ![0, v4658.toNat, 6400]
def k0_off116 (k0_t5 : Fin k0_t5_loop.trips) (c0_i32_1780 : BitVec 32) : Fin 3 → Nat :=
  let c1_1781 : Index := 1#32
  let c0_i32_85 : BitVec 32 := 0#32
  let c1_i32_86 : BitVec 32 := 1#32
  let arg25 : BitVec 32 := Scf.iv c0_i32_85 c1_i32_86 k0_t5
  let c4_i32_1779 : BitVec 32 := 4#32
  let v4674 : BitVec 32 := Scalar.muli arg25 c4_i32_1779
  let v4675 : BitVec 32 := Scalar.addi v4674 c0_i32_1780
  let v4676 : Index := Scalar.indexCast v4675
  let c6400_1782 : Index := 6400#32
  ![1, v4676.toNat, 6400]
def k0_mult56 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1828 : BitVec 32 := 128#32
  let v4808 : BitVec 32 := Scalar.muli arg25 c128_i32_1828
  v4808
def k0_off117 (k0_t5 : Fin k0_t5_loop.trips) : Fin 2 → Nat :=
  let c6656_1829 : Index := 6656#32
  let c0_i32_85 : BitVec 32 := 0#32
  let c1_i32_86 : BitVec 32 := 1#32
  let arg25 : BitVec 32 := Scf.iv c0_i32_85 c1_i32_86 k0_t5
  let c128_i32_1828 : BitVec 32 := 128#32
  let v4808 : BitVec 32 := Scalar.muli arg25 c128_i32_1828
  let v4809 : BitVec 32 := v4808
  let v4810 : Index := Scalar.indexCast v4809
  ![6656, v4810.toNat]
def k0_off118 (k0_t5 : Fin k0_t5_loop.trips) (c0_i32_1837 : BitVec 32) : Fin 3 → Nat :=
  let c0_1838 : Index := 0#32
  let c0_i32_85 : BitVec 32 := 0#32
  let c1_i32_86 : BitVec 32 := 1#32
  let arg25 : BitVec 32 := Scf.iv c0_i32_85 c1_i32_86 k0_t5
  let c4_i32_1836 : BitVec 32 := 4#32
  let v4831 : BitVec 32 := Scalar.muli arg25 c4_i32_1836
  let v4832 : BitVec 32 := Scalar.addi v4831 c0_i32_1837
  let v4833 : Index := Scalar.indexCast v4832
  let c6656_1839 : Index := 6656#32
  ![0, v4833.toNat, 6656]
def k0_off119 (k0_t5 : Fin k0_t5_loop.trips) (c0_i32_1843 : BitVec 32) : Fin 3 → Nat :=
  let c1_1844 : Index := 1#32
  let c0_i32_85 : BitVec 32 := 0#32
  let c1_i32_86 : BitVec 32 := 1#32
  let arg25 : BitVec 32 := Scf.iv c0_i32_85 c1_i32_86 k0_t5
  let c4_i32_1842 : BitVec 32 := 4#32
  let v4849 : BitVec 32 := Scalar.muli arg25 c4_i32_1842
  let v4850 : BitVec 32 := Scalar.addi v4849 c0_i32_1843
  let v4851 : Index := Scalar.indexCast v4850
  let c6656_1845 : Index := 6656#32
  ![1, v4851.toNat, 6656]
def k0_mult57 (k0_t5 : Fin k0_t5_loop.trips) : BitVec 32 :=
  let c0_i32_85 : BitVec 32 := 0#32
  let c1_i32_86 : BitVec 32 := 1#32
  let arg25 : BitVec 32 := Scf.iv c0_i32_85 c1_i32_86 k0_t5
  let c128_i32_1891 : BitVec 32 := 128#32
  let v4983 : BitVec 32 := Scalar.muli arg25 c128_i32_1891
  v4983
def k0_off120 (k0_t5 : Fin k0_t5_loop.trips) : Fin 2 → Nat :=
  let c6912_1892 : Index := 6912#32
  let c0_i32_85 : BitVec 32 := 0#32
  let c1_i32_86 : BitVec 32 := 1#32
  let arg25 : BitVec 32 := Scf.iv c0_i32_85 c1_i32_86 k0_t5
  let c128_i32_1891 : BitVec 32 := 128#32
  let v4983 : BitVec 32 := Scalar.muli arg25 c128_i32_1891
  let v4984 : BitVec 32 := v4983
  let v4985 : Index := Scalar.indexCast v4984
  ![6912, v4985.toNat]
def k0_off121 (k0_t5 : Fin k0_t5_loop.trips) (c0_i32_1900 : BitVec 32) : Fin 3 → Nat :=
  let c0_1901 : Index := 0#32
  let c0_i32_85 : BitVec 32 := 0#32
  let c1_i32_86 : BitVec 32 := 1#32
  let arg25 : BitVec 32 := Scf.iv c0_i32_85 c1_i32_86 k0_t5
  let c4_i32_1899 : BitVec 32 := 4#32
  let v5006 : BitVec 32 := Scalar.muli arg25 c4_i32_1899
  let v5007 : BitVec 32 := Scalar.addi v5006 c0_i32_1900
  let v5008 : Index := Scalar.indexCast v5007
  let c6912_1902 : Index := 6912#32
  ![0, v5008.toNat, 6912]
def k0_off122 (k0_t5 : Fin k0_t5_loop.trips) (c0_i32_1906 : BitVec 32) : Fin 3 → Nat :=
  let c1_1907 : Index := 1#32
  let c0_i32_85 : BitVec 32 := 0#32
  let c1_i32_86 : BitVec 32 := 1#32
  let arg25 : BitVec 32 := Scf.iv c0_i32_85 c1_i32_86 k0_t5
  let c4_i32_1905 : BitVec 32 := 4#32
  let v5024 : BitVec 32 := Scalar.muli arg25 c4_i32_1905
  let v5025 : BitVec 32 := Scalar.addi v5024 c0_i32_1906
  let v5026 : Index := Scalar.indexCast v5025
  let c6912_1908 : Index := 6912#32
  ![1, v5026.toNat, 6912]
abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x1x7168 : Shape := ⟨3, ![16, 1, 7168]⟩
abbrev S2304x3584 : Shape := ⟨2, ![2304, 3584]⟩
abbrev S2304x224 : Shape := ⟨2, ![2304, 224]⟩
abbrev S7168x1152 : Shape := ⟨2, ![7168, 1152]⟩
abbrev S7168x72 : Shape := ⟨2, ![7168, 72]⟩
abbrev S_ : Shape := ⟨0, ![]⟩
abbrev S2304x224x16 : Shape := ⟨3, ![2304, 224, 16]⟩
abbrev S2304x224x1 : Shape := ⟨3, ![2304, 224, 1]⟩
abbrev S16x1x3584x2 : Shape := ⟨4, ![16, 1, 3584, 2]⟩
abbrev S16x1x3584x1 : Shape := ⟨4, ![16, 1, 3584, 1]⟩
abbrev S16x1x3584 : Shape := ⟨3, ![16, 1, 3584]⟩
abbrev S16x1x2304 : Shape := ⟨3, ![16, 1, 2304]⟩
abbrev S7168x72x16 : Shape := ⟨3, ![7168, 72, 16]⟩
abbrev S7168x72x1 : Shape := ⟨3, ![7168, 72, 1]⟩
abbrev S16x1x1152x2 : Shape := ⟨4, ![16, 1, 1152, 2]⟩
abbrev S16x1x1152x1 : Shape := ⟨4, ![16, 1, 1152, 1]⟩
abbrev S16x1x1152 : Shape := ⟨3, ![16, 1, 1152]⟩

abbrev nBuf : Space → Nat
  | .hbm => 235
  | .vmem => 0
  | .smem => 0
  | _ => 0

abbrev hbmTy0_0 (i : Nat) : BufTy := match i % 128 with
  | 0 => ⟨S16x1x7168, .bf16⟩
  | 1 => ⟨S2304x3584, .i8⟩
  | 2 => ⟨S2304x224, .i16⟩
  | 3 => ⟨S2304x3584, .i8⟩
  | 4 => ⟨S2304x224, .i16⟩
  | 5 => ⟨S7168x1152, .i8⟩
  | 6 => ⟨S7168x72, .i16⟩
  | 7 => ⟨S2304x3584, .i32⟩
  | 8 => ⟨S2304x224, .i32⟩
  | 9 => ⟨S_, .i32⟩
  | 10 => ⟨S2304x224, .i32⟩
  | 11 => ⟨S2304x224, .i32⟩
  | 12 => ⟨S_, .i32⟩
  | 13 => ⟨S2304x224, .i32⟩
  | 14 => ⟨S2304x224, .i32⟩
  | 15 => ⟨S_, .i32⟩
  | 16 => ⟨S2304x224, .i32⟩
  | 17 => ⟨S2304x224, .i32⟩
  | 18 => ⟨S_, .i32⟩
  | 19 => ⟨S2304x224, .i32⟩
  | 20 => ⟨S2304x224, .i32⟩
  | 21 => ⟨S_, .i32⟩
  | 22 => ⟨S2304x224, .i32⟩
  | 23 => ⟨S2304x224, .i32⟩
  | 24 => ⟨S_, .i32⟩
  | 25 => ⟨S2304x224, .i32⟩
  | 26 => ⟨S2304x224, .i32⟩
  | 27 => ⟨S2304x224, .i32⟩
  | 28 => ⟨S2304x224, .f32⟩
  | 29 => ⟨S_, .i32⟩
  | 30 => ⟨S2304x224, .i32⟩
  | 31 => ⟨S2304x224, .i1⟩
  | 32 => ⟨S2304x224, .f32⟩
  | 33 => ⟨S_, .f32⟩
  | 34 => ⟨S2304x224, .f32⟩
  | 35 => ⟨S2304x224, .f32⟩
  | 36 => ⟨S2304x224, .f32⟩
  | 37 => ⟨S_, .i32⟩
  | 38 => ⟨S2304x224, .i32⟩
  | 39 => ⟨S2304x224, .i32⟩
  | 40 => ⟨S_, .i32⟩
  | 41 => ⟨S2304x224, .i32⟩
  | 42 => ⟨S2304x224, .i1⟩
  | 43 => ⟨S2304x224, .f32⟩
  | 44 => ⟨S2304x224, .f32⟩
  | 45 => ⟨S_, .i32⟩
  | 46 => ⟨S2304x3584, .i32⟩
  | 47 => ⟨S2304x3584, .i32⟩
  | 48 => ⟨S_, .i32⟩
  | 49 => ⟨S2304x3584, .i32⟩
  | 50 => ⟨S2304x3584, .i32⟩
  | 51 => ⟨S2304x3584, .f32⟩
  | 52 => ⟨S2304x224x16, .f32⟩
  | 53 => ⟨S2304x224x1, .f32⟩
  | 54 => ⟨S2304x224x16, .f32⟩
  | 55 => ⟨S2304x224x16, .f32⟩
  | 56 => ⟨S2304x3584, .f32⟩
  | 57 => ⟨S2304x3584, .bf16⟩
  | 58 => ⟨S_, .i32⟩
  | 59 => ⟨S2304x3584, .i32⟩
  | 60 => ⟨S2304x3584, .i32⟩
  | 61 => ⟨S_, .i32⟩
  | 62 => ⟨S2304x3584, .i32⟩
  | 63 => ⟨S2304x3584, .i32⟩
  | 64 => ⟨S2304x3584, .f32⟩
  | 65 => ⟨S2304x224x16, .f32⟩
  | 66 => ⟨S2304x224x1, .f32⟩
  | 67 => ⟨S2304x224x16, .f32⟩
  | 68 => ⟨S2304x224x16, .f32⟩
  | 69 => ⟨S2304x3584, .f32⟩
  | 70 => ⟨S2304x3584, .bf16⟩
  | 71 => ⟨S16x1x3584x2, .bf16⟩
  | 72 => ⟨S16x1x3584x1, .bf16⟩
  | 73 => ⟨S16x1x3584, .bf16⟩
  | 74 => ⟨S16x1x2304, .f32⟩
  | 75 => ⟨S16x1x3584x1, .bf16⟩
  | 76 => ⟨S16x1x3584, .bf16⟩
  | 77 => ⟨S16x1x2304, .f32⟩
  | 78 => ⟨S16x1x2304, .f32⟩
  | 79 => ⟨S2304x3584, .i32⟩
  | 80 => ⟨S2304x224, .i32⟩
  | 81 => ⟨S_, .i32⟩
  | 82 => ⟨S2304x224, .i32⟩
  | 83 => ⟨S2304x224, .i32⟩
  | 84 => ⟨S_, .i32⟩
  | 85 => ⟨S2304x224, .i32⟩
  | 86 => ⟨S2304x224, .i32⟩
  | 87 => ⟨S_, .i32⟩
  | 88 => ⟨S2304x224, .i32⟩
  | 89 => ⟨S2304x224, .i32⟩
  | 90 => ⟨S_, .i32⟩
  | 91 => ⟨S2304x224, .i32⟩
  | 92 => ⟨S2304x224, .i32⟩
  | 93 => ⟨S_, .i32⟩
  | 94 => ⟨S2304x224, .i32⟩
  | 95 => ⟨S2304x224, .i32⟩
  | 96 => ⟨S_, .i32⟩
  | 97 => ⟨S2304x224, .i32⟩
  | 98 => ⟨S2304x224, .i32⟩
  | 99 => ⟨S2304x224, .i32⟩
  | 100 => ⟨S2304x224, .f32⟩
  | 101 => ⟨S_, .i32⟩
  | 102 => ⟨S2304x224, .i32⟩
  | 103 => ⟨S2304x224, .i1⟩
  | 104 => ⟨S2304x224, .f32⟩
  | 105 => ⟨S_, .f32⟩
  | 106 => ⟨S2304x224, .f32⟩
  | 107 => ⟨S2304x224, .f32⟩
  | 108 => ⟨S2304x224, .f32⟩
  | 109 => ⟨S_, .i32⟩
  | 110 => ⟨S2304x224, .i32⟩
  | 111 => ⟨S2304x224, .i32⟩
  | 112 => ⟨S_, .i32⟩
  | 113 => ⟨S2304x224, .i32⟩
  | 114 => ⟨S2304x224, .i1⟩
  | 115 => ⟨S2304x224, .f32⟩
  | 116 => ⟨S2304x224, .f32⟩
  | 117 => ⟨S_, .i32⟩
  | 118 => ⟨S2304x3584, .i32⟩
  | 119 => ⟨S2304x3584, .i32⟩
  | 120 => ⟨S_, .i32⟩
  | 121 => ⟨S2304x3584, .i32⟩
  | 122 => ⟨S2304x3584, .i32⟩
  | 123 => ⟨S2304x3584, .f32⟩
  | 124 => ⟨S2304x224x16, .f32⟩
  | 125 => ⟨S2304x224x1, .f32⟩
  | 126 => ⟨S2304x224x16, .f32⟩
  | 127 => ⟨S2304x224x16, .f32⟩
  | _ => ⟨S16x1x7168, .bf16⟩

abbrev hbmTy0_1 (i : Nat) : BufTy := match i % 128 with
  | 0 => ⟨S2304x3584, .f32⟩
  | 1 => ⟨S2304x3584, .bf16⟩
  | 2 => ⟨S_, .i32⟩
  | 3 => ⟨S2304x3584, .i32⟩
  | 4 => ⟨S2304x3584, .i32⟩
  | 5 => ⟨S_, .i32⟩
  | 6 => ⟨S2304x3584, .i32⟩
  | 7 => ⟨S2304x3584, .i32⟩
  | 8 => ⟨S2304x3584, .f32⟩
  | 9 => ⟨S2304x224x16, .f32⟩
  | 10 => ⟨S2304x224x1, .f32⟩
  | 11 => ⟨S2304x224x16, .f32⟩
  | 12 => ⟨S2304x224x16, .f32⟩
  | 13 => ⟨S2304x3584, .f32⟩
  | 14 => ⟨S2304x3584, .bf16⟩
  | 15 => ⟨S16x1x3584x2, .bf16⟩
  | 16 => ⟨S16x1x3584x1, .bf16⟩
  | 17 => ⟨S16x1x3584, .bf16⟩
  | 18 => ⟨S16x1x2304, .f32⟩
  | 19 => ⟨S16x1x3584x1, .bf16⟩
  | 20 => ⟨S16x1x3584, .bf16⟩
  | 21 => ⟨S16x1x2304, .f32⟩
  | 22 => ⟨S16x1x2304, .f32⟩
  | 23 => ⟨S16x1x2304, .f32⟩
  | 24 => ⟨S16x1x2304, .f32⟩
  | 25 => ⟨S_, .f32⟩
  | 26 => ⟨S16x1x2304, .f32⟩
  | 27 => ⟨S16x1x2304, .f32⟩
  | 28 => ⟨S_, .f32⟩
  | 29 => ⟨S16x1x2304, .f32⟩
  | 30 => ⟨S16x1x2304, .f32⟩
  | 31 => ⟨S16x1x2304, .f32⟩
  | 32 => ⟨S16x1x2304, .f32⟩
  | 33 => ⟨S16x1x2304, .bf16⟩
  | 34 => ⟨S7168x1152, .i32⟩
  | 35 => ⟨S7168x72, .i32⟩
  | 36 => ⟨S_, .i32⟩
  | 37 => ⟨S7168x72, .i32⟩
  | 38 => ⟨S7168x72, .i32⟩
  | 39 => ⟨S_, .i32⟩
  | 40 => ⟨S7168x72, .i32⟩
  | 41 => ⟨S7168x72, .i32⟩
  | 42 => ⟨S_, .i32⟩
  | 43 => ⟨S7168x72, .i32⟩
  | 44 => ⟨S7168x72, .i32⟩
  | 45 => ⟨S_, .i32⟩
  | 46 => ⟨S7168x72, .i32⟩
  | 47 => ⟨S7168x72, .i32⟩
  | 48 => ⟨S_, .i32⟩
  | 49 => ⟨S7168x72, .i32⟩
  | 50 => ⟨S7168x72, .i32⟩
  | 51 => ⟨S_, .i32⟩
  | 52 => ⟨S7168x72, .i32⟩
  | 53 => ⟨S7168x72, .i32⟩
  | 54 => ⟨S7168x72, .i32⟩
  | 55 => ⟨S7168x72, .f32⟩
  | 56 => ⟨S_, .i32⟩
  | 57 => ⟨S7168x72, .i32⟩
  | 58 => ⟨S7168x72, .i1⟩
  | 59 => ⟨S7168x72, .f32⟩
  | 60 => ⟨S_, .f32⟩
  | 61 => ⟨S7168x72, .f32⟩
  | 62 => ⟨S7168x72, .f32⟩
  | 63 => ⟨S7168x72, .f32⟩
  | 64 => ⟨S_, .i32⟩
  | 65 => ⟨S7168x72, .i32⟩
  | 66 => ⟨S7168x72, .i32⟩
  | 67 => ⟨S_, .i32⟩
  | 68 => ⟨S7168x72, .i32⟩
  | 69 => ⟨S7168x72, .i1⟩
  | 70 => ⟨S7168x72, .f32⟩
  | 71 => ⟨S7168x72, .f32⟩
  | 72 => ⟨S_, .i32⟩
  | 73 => ⟨S7168x1152, .i32⟩
  | 74 => ⟨S7168x1152, .i32⟩
  | 75 => ⟨S_, .i32⟩
  | 76 => ⟨S7168x1152, .i32⟩
  | 77 => ⟨S7168x1152, .i32⟩
  | 78 => ⟨S7168x1152, .f32⟩
  | 79 => ⟨S7168x72x16, .f32⟩
  | 80 => ⟨S7168x72x1, .f32⟩
  | 81 => ⟨S7168x72x16, .f32⟩
  | 82 => ⟨S7168x72x16, .f32⟩
  | 83 => ⟨S7168x1152, .f32⟩
  | 84 => ⟨S7168x1152, .bf16⟩
  | 85 => ⟨S_, .i32⟩
  | 86 => ⟨S7168x1152, .i32⟩
  | 87 => ⟨S7168x1152, .i32⟩
  | 88 => ⟨S_, .i32⟩
  | 89 => ⟨S7168x1152, .i32⟩
  | 90 => ⟨S7168x1152, .i32⟩
  | 91 => ⟨S7168x1152, .f32⟩
  | 92 => ⟨S7168x72x16, .f32⟩
  | 93 => ⟨S7168x72x1, .f32⟩
  | 94 => ⟨S7168x72x16, .f32⟩
  | 95 => ⟨S7168x72x16, .f32⟩
  | 96 => ⟨S7168x1152, .f32⟩
  | 97 => ⟨S7168x1152, .bf16⟩
  | 98 => ⟨S16x1x1152x2, .bf16⟩
  | 99 => ⟨S16x1x1152x1, .bf16⟩
  | 100 => ⟨S16x1x1152, .bf16⟩
  | 101 => ⟨S16x1x7168, .f32⟩
  | 102 => ⟨S16x1x1152x1, .bf16⟩
  | 103 => ⟨S16x1x1152, .bf16⟩
  | 104 => ⟨S16x1x7168, .f32⟩
  | 105 => ⟨S16x1x7168, .f32⟩
  | 106 => ⟨S16x1x7168, .bf16⟩
  | _ => ⟨S16x1x7168, .bf16⟩

abbrev hbmTy (i : Nat) : BufTy := match i / 128 with
  | 0 => hbmTy0_0 i
  | 1 => hbmTy0_1 i
  | _ => ⟨S16x1x7168, .bf16⟩

abbrev bufTy : (tb : Table) → Fin (tcTables nBuf tb) → BufTy
  | .hbm, ⟨i, _⟩ => hbmTy i
  | _, _ => ⟨S16x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_20 : Ref sig .tc := ⟨.hbm, 109, rfl⟩
abbrev main_v80 : Ref sig .tc := ⟨.hbm, 110, rfl⟩
abbrev main_v81 : Ref sig .tc := ⟨.hbm, 111, rfl⟩
abbrev main_c_21 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_22 : Ref sig .tc := ⟨.hbm, 117, rfl⟩
abbrev main_v86 : Ref sig .tc := ⟨.hbm, 118, rfl⟩
abbrev main_v87 : Ref sig .tc := ⟨.hbm, 119, rfl⟩
abbrev main_c_23 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_24 : Ref sig .tc := ⟨.hbm, 130, rfl⟩
abbrev main_v97 : Ref sig .tc := ⟨.hbm, 131, rfl⟩
abbrev main_v98 : Ref sig .tc := ⟨.hbm, 132, rfl⟩
abbrev main_c_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_call4_v5 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_26 : Ref sig .tc := ⟨.hbm, 164, rfl⟩
abbrev main_v121 : Ref sig .tc := ⟨.hbm, 165, rfl⟩
abbrev main_v122 : Ref sig .tc := ⟨.hbm, 166, rfl⟩
abbrev main_c_27 : Ref sig .tc := ⟨.hbm, 167, rfl⟩
abbrev main_v123 : Ref sig .tc := ⟨.hbm, 168, rfl⟩
abbrev main_v124 : Ref sig .tc := ⟨.hbm, 169, rfl⟩
abbrev main_c_28 : Ref sig .tc := ⟨.hbm, 170, rfl⟩
abbrev main_v125 : Ref sig .tc := ⟨.hbm, 171, rfl⟩
abbrev main_v126 : Ref sig .tc := ⟨.hbm, 172, rfl⟩
abbrev main_c_29 : Ref sig .tc := ⟨.hbm, 173, rfl⟩
abbrev main_v127 : Ref sig .tc := ⟨.hbm, 174, rfl⟩
abbrev main_v128 : Ref sig .tc := ⟨.hbm, 175, rfl⟩
abbrev main_c_30 : Ref sig .tc := ⟨.hbm, 176, rfl⟩
abbrev main_v129 : Ref sig .tc := ⟨.hbm, 177, rfl⟩
abbrev main_v130 : Ref sig .tc := ⟨.hbm, 178, rfl⟩
abbrev main_c_31 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_32 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_33 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_34 : Ref sig .tc := ⟨.hbm, 192, rfl⟩
abbrev main_v141 : Ref sig .tc := ⟨.hbm, 193, rfl⟩
abbrev main_v142 : Ref sig .tc := ⟨.hbm, 194, rfl⟩
abbrev main_c_35 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_c_36 : Ref sig .tc := ⟨.hbm, 200, rfl⟩
abbrev main_v147 : Ref sig .tc := ⟨.hbm, 201, rfl⟩
abbrev main_v148 : Ref sig .tc := ⟨.hbm, 202, rfl⟩
abbrev main_c_37 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_c_38 : Ref sig .tc := ⟨.hbm, 213, rfl⟩
abbrev main_v158 : Ref sig .tc := ⟨.hbm, 214, rfl⟩
abbrev main_v159 : Ref sig .tc := ⟨.hbm, 215, rfl⟩
abbrev main_c_39 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩

abbrev nD : Nat := 1
abbrev τ : Topo := Topo.v7x

variable {F : FTy → Type} [FloatOps F]
-- ==== Proof.Kernel.Kit.lean ====
/- What the frame proof of the program `Kernel` is stated over: the buffers at the region's entry, the host
   operations around the region, the staging and scratch memrefs, the kernel's own semaphore cells and the
   operands it copies itself. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S16x7168 .bf16 := win0_0.stage (cfg0.slots t 0)
abbrev hs0_0 (t : Fin cfg0.N) : (ms0_0 t).IsWhole := hstage0_0 0
abbrev ms0_1 (t : Fin cfg0.N) : Memref sig .tc .vmem S16x7168 .bf16 := win0_1.stage (cfg0.slots t 1)
abbrev hs0_1 (t : Fin cfg0.N) : (ms0_1 t).IsWhole := hstage0_1 0
/-- The scratch operands: whole scoped buffers of the kernel's own, passed beside the windows. -/
abbrev scM0_0 : Memref sig .tc .vmem S2304x3584 .i8 := Memref.whole cc0_scratch0
abbrev scM0_1 : Memref sig .tc .vmem S2304x3584 .i8 := Memref.whole cc0_scratch1
abbrev scM0_2 : Memref sig .tc .vmem S7168x1152 .i8 := Memref.whole cc0_scratch2
abbrev scM0_3 : Memref sig .tc .vmem S2304x224 .i16 := Memref.whole cc0_scratch3
abbrev scM0_4 : Memref sig .tc .vmem S2304x224 .i16 := Memref.whole cc0_scratch4
abbrev scM0_5 : Memref sig .tc .vmem S7168x72 .i16 := Memref.whole cc0_scratch5
abbrev scM0_6 : Memref sig .tc .vmem S2x112x2304 .f32 := Memref.whole cc0_scratch6
abbrev scM0_7 : Memref sig .tc .vmem S2x112x2304 .f32 := Memref.whole cc0_scratch7
abbrev scM0_8 : Memref sig .tc .vmem S2x112x2304 .f32 := Memref.whole cc0_scratch8
abbrev scM0_9 : Memref sig .tc .vmem S2x112x2304 .f32 := Memref.whole cc0_scratch9
abbrev scM0_10 : Memref sig .tc .vmem S2x40x7168 .f32 := Memref.whole cc0_scratch10
abbrev scM0_11 : Memref sig .tc .vmem S2x40x7168 .f32 := Memref.whole cc0_scratch11
abbrev scM0_12 : Memref sig .tc .vmem S9x16x256 .f32 := Memref.whole cc0_scratch12
abbrev scM0_13 : Memref sig .tc .vmem S9x16x256 .f32 := Memref.whole cc0_scratch13
abbrev scM0_14 : Memref sig .tc .vmem S28x16x256 .f32 := Memref.whole cc0_scratch14
abbrev scM0_15 : Memref sig .tc .vmem S16x2304 .bf16 := Memref.whole cc0_scratch15
/-- The operands left in HBM that the body copies into scratch itself, whole. -/
abbrev hbM0_0 : Memref sig .tc .hbm S2304x3584 .i8 := Memref.whole main_arg1
abbrev hbM0_1 : Memref sig .tc .hbm S2304x224 .i16 := Memref.whole main_arg2
abbrev hbM0_2 : Memref sig .tc .hbm S2304x3584 .i8 := Memref.whole main_arg3
abbrev hbM0_3 : Memref sig .tc .hbm S2304x224 .i16 := Memref.whole main_arg4
abbrev hbM0_4 : Memref sig .tc .hbm S7168x1152 .i8 := Memref.whole main_arg5
abbrev hbM0_5 : Memref sig .tc .hbm S7168x72 .i16 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 2, SemLoc.dma 3, SemLoc.dma 4, SemLoc.dma 5, SemLoc.dma 6, SemLoc.dma 7] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg1, main_arg2, main_arg3, main_arg4, main_arg5, main_arg6}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg1) ∗ hbPt0 c hbM0_1 (V m c main_arg2) ∗ hbPt0 c hbM0_2 (V m c main_arg3) ∗ hbPt0 c hbM0_3 (V m c main_arg4) ∗ hbPt0 c hbM0_4 (V m c main_arg5) ∗ hbPt0 c hbM0_5 (V m c main_arg6)) := by
  rw [BI.bigSep_eq_bigSepL_of_eq [main_arg1, main_arg2, main_arg3, main_arg4, main_arg5, main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_arg1) ∗ hbPt0 c hbM0_1 (V m c main_arg2) ∗ hbPt0 c hbM0_2 (V m c main_arg3) ∗ hbPt0 c hbM0_3 (V m c main_arg4) ∗ hbPt0 c hbM0_4 (V m c main_arg5) ∗ hbPt0 c hbM0_5 (V m c main_arg6))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, owns_whole]; try rfl

end Cert.Kernel.Hand

end
-- ==== Proof.Kernel.Loops.lean ====
/- The five counted loops of the program `Kernel` for its frame proof: each trip touches only the buffers it
   reads and writes. -/
module

public import proofs.«01_k».proof.Proof.Kernel.Kit
public import proofs.«01_k».proof.Proof.Gen.Kernel.Loops

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false

variable (𝒱 : Variants) (c : Dev nD) (bd : Option 𝒱.V) (E : Set ℕ) (arg0 : Memref sig .tc .vmem S16x7168 .bf16) (harg0 : arg0.IsWhole) (arg1 : Memref sig .tc .hbm S2304x3584 .i8) (harg1 : arg1.IsWhole) (arg2 : Memref sig .tc .hbm S2304x224 .i16) (harg2 : arg2.IsWhole) (arg3 : Memref sig .tc .hbm S2304x3584 .i8) (harg3 : arg3.IsWhole) (arg4 : Memref sig .tc .hbm S2304x224 .i16) (harg4 : arg4.IsWhole) (arg5 : Memref sig .tc .hbm S7168x1152 .i8) (harg5 : arg5.IsWhole) (arg6 : Memref sig .tc .hbm S7168x72 .i16) (harg6 : arg6.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole) (arg24 : DmaSems sig S6)

/-- Loop `t1`: before every trip the buffers it reads hold what they held, and the ones it writes
    hold something. -/
@[sl_loop] def loop_t1 (X_arg11 : BufTy.Contents (Elt F) arg11.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg11.view.loc (c : Thread nD τ) ↦[arg11.view.set]{fullShare} X_arg11) ∗ (∃ f, (arg14.view.loc (c : Thread nD τ) ↦[arg14.view.set]{fullShare} f)) ∗ (∃ f, (arg15.view.loc (c : Thread nD τ) ↦[arg15.view.set]{fullShare} f)))
  step k acc := by
    have hk : k.val < 18 := Nat.lt_of_lt_of_le k.isLt k0_t1_abs.2.1
    unfold k0_t1_body
    iintro ⟨Harg11, ⟨%f_arg14, Harg14⟩, ⟨%f_arg15, Harg15⟩⟩
    sl_exec
    sl_step
    sl_close

/-- Loop `t2`: before every trip the buffers it reads hold what they held, and the ones it writes
    hold something. -/
@[sl_loop] def loop_t2 (X_arg12 : BufTy.Contents (Elt F) arg12.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg12.view.loc (c : Thread nD τ) ↦[arg12.view.set]{fullShare} X_arg12) ∗ (∃ f, (arg16.view.loc (c : Thread nD τ) ↦[arg16.view.set]{fullShare} f)) ∗ (∃ f, (arg17.view.loc (c : Thread nD τ) ↦[arg17.view.set]{fullShare} f)))
  step k acc := by
    have hk : k.val < 18 := Nat.lt_of_lt_of_le k.isLt k0_t2_abs.2.1
    unfold k0_t2_body
    iintro ⟨Harg12, ⟨%f_arg16, Harg16⟩, ⟨%f_arg17, Harg17⟩⟩
    sl_exec
    sl_step
    sl_close

/-- Loop `t3`: before every trip the buffers it reads hold what they held, and the ones it writes
    hold something. -/
@[sl_loop] def loop_t3 (X_arg0 : BufTy.Contents (Elt F) arg0.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg0.view.loc (c : Thread nD τ) ↦[arg0.view.set]{fullShare} X_arg0) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg20.view.loc (c : Thread nD τ) ↦[arg20.view.set]{fullShare} f)) ∗ (∃ f, (arg21.view.loc (c : Thread nD τ) ↦[arg21.view.set]{fullShare} f)))
  step k acc := by
    have hk : k.val < 28 := Nat.lt_of_lt_of_le k.isLt k0_t3_abs.2.1
    unfold k0_t3_body
    iintro ⟨Harg0, Harg8, Harg9, Harg14, Harg15, Harg16, Harg17, ⟨%f_arg20, Harg20⟩, ⟨%f_arg21, Harg21⟩⟩
    sl_exec
    sl_step
    sl_close

/-- Loop `t4`: before every trip the buffers it reads hold what they held, and the ones it writes
    hold something. -/
@[sl_loop] def loop_t4 (v119 : FVec F S16x256 .bf16) (X_arg13 : BufTy.Contents (Elt F) arg13.view.ty) :
    LoopInvTy_k0_t4 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun _ _ => iprop((arg13.view.loc (c : Thread nD τ) ↦[arg13.view.set]{fullShare} X_arg13) ∗ (∃ f, (arg18.view.loc (c : Thread nD τ) ↦[arg18.view.set]{fullShare} f)) ∗ (∃ f, (arg19.view.loc (c : Thread nD τ) ↦[arg19.view.set]{fullShare} f)))
  step k acc := by
    have hk : k.val < 56 := Nat.lt_of_lt_of_le k.isLt k0_t4_abs.2.1
    unfold k0_t4_body
    iintro ⟨Harg13, ⟨%f_arg18, Harg18⟩, ⟨%f_arg19, Harg19⟩⟩
    sl_exec
    sl_step
    sl_close

/-- Loop `t5`: before every trip the buffers it reads hold what they held, and the ones it writes
    hold something. -/
@[sl_loop] def loop_t5 (v119 : FVec F S16x256 .bf16) (X_arg10 : BufTy.Contents (Elt F) arg10.view.ty) (X_arg18 : BufTy.Contents (Elt F) arg18.view.ty) (X_arg19 : BufTy.Contents (Elt F) arg19.view.ty) (X_arg23 : BufTy.Contents (Elt F) arg23.view.ty) :
    LoopInvTy_k0_t5 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun _ _ => iprop((arg10.view.loc (c : Thread nD τ) ↦[arg10.view.set]{fullShare} X_arg10) ∗ (arg18.view.loc (c : Thread nD τ) ↦[arg18.view.set]{fullShare} X_arg18) ∗ (arg19.view.loc (c : Thread nD τ) ↦[arg19.view.set]{fullShare} X_arg19) ∗ (arg23.view.loc (c : Thread nD τ) ↦[arg23.view.set]{fullShare} X_arg23) ∗ (∃ f, (arg22.view.loc (c : Thread nD τ) ↦[arg22.view.set]{fullShare} f)))
  step k acc := by
    have hk : k.val < 9 := Nat.lt_of_lt_of_le k.isLt k0_t5_abs.2.1
    unfold k0_t5_body
    iintro ⟨Harg10, Harg18, Harg19, Harg23, ⟨%f_arg22, Harg22⟩⟩
    sl_exec
    sl_step
    sl_close

end Cert.Kernel.Hand
-- ==== Proof.Kernel.Run.lean ====
/- The whole kernel body of the program `Kernel`, run once. -/
module

public import proofs.«01_k».proof.Proof.Kernel.Loops

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1124000 in
/-- The body's triple: on whole staging memrefs — the inputs' at their contents,
    the FORGOTTEN outputs' (1) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S16x7168 .bf16) (harg0 : arg0.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole)
    (x0 : Vec F S16x7168 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
      ∀ (W : Waits sig Unit) (K : PUnit → sProp (MT nD τ sig Unit (Elt F) ℕ (Pipeline.UD sig nD τ) ℕ)),
        iprop(owns (c : Thread nD τ) arg0 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg0 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_q4_mlp arg0 harg0 (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch16) K := by
    intro W K
    simp only [cc0_q4_mlp_eq_skeleton]; unfold cc0_q4_mlp_skel
    simp only [k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hq0, Hq1, Hq2, Hq3, Hq4, Hq5, Hh0, Hh1, Hh2, Hh3, Hh4, Hh5, HW, Hk⟩
    obtain rfl := harg0.eq_unread hf0
    sl_exec
    sl_step
    iapply Hk
    isplitl [H0]
    · iexists _; isplitr; · ipureintro; exact harg0.read_unread _
      iexact H0
    isplitl [H1]
    · iexists _, _; isplitr; swap; · iexact H1
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Kernel.Hand

end
-- ==== Proof.Kernel.Frame.lean ====
/- The frame of the program `Kernel`: every argument ends as it was and every semaphore ends at zero. -/
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (1): nothing reads what the kernel leaves in them, so nothing
    of it is named (Lib/Pipeline/Dat.lean `Dat.toRForget`). -/
def forgets0 : Fin 2 → Bool := fun w => w.val == 1

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d))

set_option maxHeartbeats 1600000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12, HS13, HS14, HS15⟩, Hg, ⟨Hq0, Hq1, Hq2, Hq3, Hq4, Hq5⟩, ⟨Hh0, Hh1, Hh2, Hh3, Hh4, Hh5⟩⟩, ⟨%W, -, HW⟩, ⟨%d0, H0⟩, ⟨%d1, H1⟩⟩
  iapply ((kernelRun0_A c _ _ _ _ _ _ _ _ _ _ _ _ _ _ _ _ _ _ _ _ _ _ _ _ _ _ _ _ _ _ _ _ _ _ _ _ (iblk m c 0 t) (V m c main_arg1) (V m c main_arg2) (V m c main_arg3) (V m c main_arg4) (V m c main_arg5) (V m c main_arg6)) W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, HS0, HS1, HS2, HS3, HS4, HS5, HS6, HS7, HS8, HS9, HS10, HS11, HS12, HS13, HS14, HS15, Hq0, Hq1, Hq2, Hq3, Hq4, Hq5, Hh0, Hh1, Hh2, Hh3, Hh4, Hh5, ⟨%W', HW'⟩⟩
  isplitl [HS0 HS1 HS2 HS3 HS4 HS5 HS6 HS7 HS8 HS9 HS10 HS11 HS12 HS13 HS14 HS15 Hg Hq0 Hq1 Hq2 Hq3 Hq4 Hq5 Hh0 Hh1 Hh2 Hh3 Hh4 Hh5]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [Hg]
    · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 1) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.KernelIdeal.Kit.lean ====
/- What the frame proof of the program `KernelIdeal` is stated over: the buffers at the region's entry, the host
   operations around the region, the staging and scratch memrefs, the kernel's own semaphore cells and the
   operands it copies itself. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S16x7168 .bf16 := win0_0.stage (cfg0.slots t 0)
abbrev hs0_0 (t : Fin cfg0.N) : (ms0_0 t).IsWhole := hstage0_0 0
abbrev ms0_1 (t : Fin cfg0.N) : Memref sig .tc .vmem S16x7168 .bf16 := win0_1.stage (cfg0.slots t 1)
abbrev hs0_1 (t : Fin cfg0.N) : (ms0_1 t).IsWhole := hstage0_1 0
/-- The scratch operands: whole scoped buffers of the kernel's own, passed beside the windows. -/
abbrev scM0_0 : Memref sig .tc .vmem S2304x3584 .i8 := Memref.whole cc0_scratch0
abbrev scM0_1 : Memref sig .tc .vmem S2304x3584 .i8 := Memref.whole cc0_scratch1
abbrev scM0_2 : Memref sig .tc .vmem S7168x1152 .i8 := Memref.whole cc0_scratch2
abbrev scM0_3 : Memref sig .tc .vmem S2304x224 .i16 := Memref.whole cc0_scratch3
abbrev scM0_4 : Memref sig .tc .vmem S2304x224 .i16 := Memref.whole cc0_scratch4
abbrev scM0_5 : Memref sig .tc .vmem S7168x72 .i16 := Memref.whole cc0_scratch5
abbrev scM0_6 : Memref sig .tc .vmem S2x112x2304 .f32 := Memref.whole cc0_scratch6
abbrev scM0_7 : Memref sig .tc .vmem S2x112x2304 .f32 := Memref.whole cc0_scratch7
abbrev scM0_8 : Memref sig .tc .vmem S2x112x2304 .f32 := Memref.whole cc0_scratch8
abbrev scM0_9 : Memref sig .tc .vmem S2x112x2304 .f32 := Memref.whole cc0_scratch9
abbrev scM0_10 : Memref sig .tc .vmem S2x40x7168 .f32 := Memref.whole cc0_scratch10
abbrev scM0_11 : Memref sig .tc .vmem S2x40x7168 .f32 := Memref.whole cc0_scratch11
abbrev scM0_12 : Memref sig .tc .vmem S9x16x256 .f32 := Memref.whole cc0_scratch12
abbrev scM0_13 : Memref sig .tc .vmem S9x16x256 .f32 := Memref.whole cc0_scratch13
abbrev scM0_14 : Memref sig .tc .vmem S28x16x256 .f32 := Memref.whole cc0_scratch14
abbrev scM0_15 : Memref sig .tc .vmem S16x2304 .bf16 := Memref.whole cc0_scratch15
/-- The operands left in HBM that the body copies into scratch itself, whole. -/
abbrev hbM0_0 : Memref sig .tc .hbm S2304x3584 .i8 := Memref.whole main_arg1
abbrev hbM0_1 : Memref sig .tc .hbm S2304x224 .i16 := Memref.whole main_arg2
abbrev hbM0_2 : Memref sig .tc .hbm S2304x3584 .i8 := Memref.whole main_arg3
abbrev hbM0_3 : Memref sig .tc .hbm S2304x224 .i16 := Memref.whole main_arg4
abbrev hbM0_4 : Memref sig .tc .hbm S7168x1152 .i8 := Memref.whole main_arg5
abbrev hbM0_5 : Memref sig .tc .hbm S7168x72 .i16 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 2, SemLoc.dma 3, SemLoc.dma 4, SemLoc.dma 5, SemLoc.dma 6, SemLoc.dma 7] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg1, main_arg2, main_arg3, main_arg4, main_arg5, main_arg6}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg1) ∗ hbPt0 c hbM0_1 (V m c main_arg2) ∗ hbPt0 c hbM0_2 (V m c main_arg3) ∗ hbPt0 c hbM0_3 (V m c main_arg4) ∗ hbPt0 c hbM0_4 (V m c main_arg5) ∗ hbPt0 c hbM0_5 (V m c main_arg6)) := by
  rw [BI.bigSep_eq_bigSepL_of_eq [main_arg1, main_arg2, main_arg3, main_arg4, main_arg5, main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_arg1) ∗ hbPt0 c hbM0_1 (V m c main_arg2) ∗ hbPt0 c hbM0_2 (V m c main_arg3) ∗ hbPt0 c hbM0_3 (V m c main_arg4) ∗ hbPt0 c hbM0_4 (V m c main_arg5) ∗ hbPt0 c hbM0_5 (V m c main_arg6))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, owns_whole]; try rfl

end Cert.KernelIdeal.Hand

end
-- ==== Proof.KernelIdeal.Loops.lean ====
/- The five counted loops of the program `KernelIdeal` for its frame proof: each trip touches only the buffers it
   reads and writes. -/
module

public import proofs.«01_k».proof.Proof.KernelIdeal.Kit
public import proofs.«01_k».proof.Proof.Gen.KernelIdeal.Loops

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false

variable (𝒱 : Variants) (c : Dev nD) (bd : Option 𝒱.V) (E : Set ℕ) (arg0 : Memref sig .tc .vmem S16x7168 .bf16) (harg0 : arg0.IsWhole) (arg1 : Memref sig .tc .hbm S2304x3584 .i8) (harg1 : arg1.IsWhole) (arg2 : Memref sig .tc .hbm S2304x224 .i16) (harg2 : arg2.IsWhole) (arg3 : Memref sig .tc .hbm S2304x3584 .i8) (harg3 : arg3.IsWhole) (arg4 : Memref sig .tc .hbm S2304x224 .i16) (harg4 : arg4.IsWhole) (arg5 : Memref sig .tc .hbm S7168x1152 .i8) (harg5 : arg5.IsWhole) (arg6 : Memref sig .tc .hbm S7168x72 .i16) (harg6 : arg6.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole) (arg24 : DmaSems sig S6)

/-- Loop `t1`: before every trip the buffers it reads hold what they held, and the ones it writes
    hold something. -/
@[sl_loop] def loop_t1 (X_arg11 : BufTy.Contents (Elt F) arg11.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg11.view.loc (c : Thread nD τ) ↦[arg11.view.set]{fullShare} X_arg11) ∗ (∃ f, (arg14.view.loc (c : Thread nD τ) ↦[arg14.view.set]{fullShare} f)) ∗ (∃ f, (arg15.view.loc (c : Thread nD τ) ↦[arg15.view.set]{fullShare} f)))
  step k acc := by
    have hk : k.val < 18 := Nat.lt_of_lt_of_le k.isLt k0_t1_abs.2.1
    unfold k0_t1_body
    iintro ⟨Harg11, ⟨%f_arg14, Harg14⟩, ⟨%f_arg15, Harg15⟩⟩
    sl_exec
    sl_step
    sl_close

/-- Loop `t2`: before every trip the buffers it reads hold what they held, and the ones it writes
    hold something. -/
@[sl_loop] def loop_t2 (X_arg12 : BufTy.Contents (Elt F) arg12.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg12.view.loc (c : Thread nD τ) ↦[arg12.view.set]{fullShare} X_arg12) ∗ (∃ f, (arg16.view.loc (c : Thread nD τ) ↦[arg16.view.set]{fullShare} f)) ∗ (∃ f, (arg17.view.loc (c : Thread nD τ) ↦[arg17.view.set]{fullShare} f)))
  step k acc := by
    have hk : k.val < 18 := Nat.lt_of_lt_of_le k.isLt k0_t2_abs.2.1
    unfold k0_t2_body
    iintro ⟨Harg12, ⟨%f_arg16, Harg16⟩, ⟨%f_arg17, Harg17⟩⟩
    sl_exec
    sl_step
    sl_close

/-- Loop `t3`: before every trip the buffers it reads hold what they held, and the ones it writes
    hold something. -/
@[sl_loop] def loop_t3 (X_arg0 : BufTy.Contents (Elt F) arg0.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun _ _ => iprop((arg0.view.loc (c : Thread nD τ) ↦[arg0.view.set]{fullShare} X_arg0) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg20.view.loc (c : Thread nD τ) ↦[arg20.view.set]{fullShare} f)) ∗ (∃ f, (arg21.view.loc (c : Thread nD τ) ↦[arg21.view.set]{fullShare} f)))
  step k acc := by
    have hk : k.val < 28 := Nat.lt_of_lt_of_le k.isLt k0_t3_abs.2.1
    unfold k0_t3_body
    iintro ⟨Harg0, Harg8, Harg9, Harg14, Harg15, Harg16, Harg17, ⟨%f_arg20, Harg20⟩, ⟨%f_arg21, Harg21⟩⟩
    sl_exec
    sl_step
    sl_close

/-- Loop `t4`: before every trip the buffers it reads hold what they held, and the ones it writes
    hold something. -/
@[sl_loop] def loop_t4 (v119 : FVec F S16x256 .bf16) (X_arg13 : BufTy.Contents (Elt F) arg13.view.ty) :
    LoopInvTy_k0_t4 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun _ _ => iprop((arg13.view.loc (c : Thread nD τ) ↦[arg13.view.set]{fullShare} X_arg13) ∗ (∃ f, (arg18.view.loc (c : Thread nD τ) ↦[arg18.view.set]{fullShare} f)) ∗ (∃ f, (arg19.view.loc (c : Thread nD τ) ↦[arg19.view.set]{fullShare} f)))
  step k acc := by
    have hk : k.val < 56 := Nat.lt_of_lt_of_le k.isLt k0_t4_abs.2.1
    unfold k0_t4_body
    iintro ⟨Harg13, ⟨%f_arg18, Harg18⟩, ⟨%f_arg19, Harg19⟩⟩
    sl_exec
    sl_step
    sl_close

/-- Loop `t5`: before every trip the buffers it reads hold what they held, and the ones it writes
    hold something. -/
@[sl_loop] def loop_t5 (v119 : FVec F S16x256 .bf16) (X_arg10 : BufTy.Contents (Elt F) arg10.view.ty) (X_arg18 : BufTy.Contents (Elt F) arg18.view.ty) (X_arg19 : BufTy.Contents (Elt F) arg19.view.ty) (X_arg23 : BufTy.Contents (Elt F) arg23.view.ty) :
    LoopInvTy_k0_t5 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun _ _ => iprop((arg10.view.loc (c : Thread nD τ) ↦[arg10.view.set]{fullShare} X_arg10) ∗ (arg18.view.loc (c : Thread nD τ) ↦[arg18.view.set]{fullShare} X_arg18) ∗ (arg19.view.loc (c : Thread nD τ) ↦[arg19.view.set]{fullShare} X_arg19) ∗ (arg23.view.loc (c : Thread nD τ) ↦[arg23.view.set]{fullShare} X_arg23) ∗ (∃ f, (arg22.view.loc (c : Thread nD τ) ↦[arg22.view.set]{fullShare} f)))
  step k acc := by
    have hk : k.val < 9 := Nat.lt_of_lt_of_le k.isLt k0_t5_abs.2.1
    unfold k0_t5_body
    iintro ⟨Harg10, Harg18, Harg19, Harg23, ⟨%f_arg22, Harg22⟩⟩
    sl_exec
    sl_step
    sl_close

end Cert.KernelIdeal.Hand
-- ==== Proof.KernelIdeal.Run.lean ====
/- The whole kernel body of the program `KernelIdeal`, run once. -/
module

public import proofs.«01_k».proof.Proof.KernelIdeal.Loops

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1124000 in
/-- The body's triple: on whole staging memrefs — the inputs' at their contents,
    the FORGOTTEN outputs' (1) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S16x7168 .bf16) (harg0 : arg0.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole)
    (x0 : Vec F S16x7168 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
      ∀ (W : Waits sig Unit) (K : PUnit → sProp (MT nD τ sig Unit (Elt F) ℕ (Pipeline.UD sig nD τ) ℕ)),
        iprop(owns (c : Thread nD τ) arg0 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg0 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_q4_mlp arg0 harg0 (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch16) K := by
    intro W K
    simp only [cc0_q4_mlp_eq_skeleton]; unfold cc0_q4_mlp_skel
    simp only [k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hq0, Hq1, Hq2, Hq3, Hq4, Hq5, Hh0, Hh1, Hh2, Hh3, Hh4, Hh5, HW, Hk⟩
    obtain rfl := harg0.eq_unread hf0
    sl_exec
    sl_step
    iapply Hk
    isplitl [H0]
    · iexists _; isplitr; · ipureintro; exact harg0.read_unread _
      iexact H0
    isplitl [H1]
    · iexists _, _; isplitr; swap; · iexact H1
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Hand

end
-- ==== Proof.KernelIdeal.Frame.lean ====
/- The frame of the program `KernelIdeal`: every argument ends as it was and every semaphore ends at zero. -/
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (1): nothing reads what the kernel leaves in them, so nothing
    of it is named (Lib/Pipeline/Dat.lean `Dat.toRForget`). -/
def forgets0 : Fin 2 → Bool := fun w => w.val == 1

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d))

set_option maxHeartbeats 1600000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12, HS13, HS14, HS15⟩, Hg, ⟨Hq0, Hq1, Hq2, Hq3, Hq4, Hq5⟩, ⟨Hh0, Hh1, Hh2, Hh3, Hh4, Hh5⟩⟩, ⟨%W, -, HW⟩, ⟨%d0, H0⟩, ⟨%d1, H1⟩⟩
  iapply ((kernelRun0_A c _ _ _ _ _ _ _ _ _ _ _ _ _ _ _ _ _ _ _ _ _ _ _ _ _ _ _ _ _ _ _ _ _ _ _ _ (iblk m c 0 t) (V m c main_arg1) (V m c main_arg2) (V m c main_arg3) (V m c main_arg4) (V m c main_arg5) (V m c main_arg6)) W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, HS0, HS1, HS2, HS3, HS4, HS5, HS6, HS7, HS8, HS9, HS10, HS11, HS12, HS13, HS14, HS15, Hq0, Hq1, Hq2, Hq3, Hq4, Hq5, Hh0, Hh1, Hh2, Hh3, Hh4, Hh5, ⟨%W', HW'⟩⟩
  isplitl [HS0 HS1 HS2 HS3 HS4 HS5 HS6 HS7 HS8 HS9 HS10 HS11 HS12 HS13 HS14 HS15 Hg Hq0 Hq1 Hq2 Hq3 Hq4 Hq5 Hh0 Hh1 Hh2 Hh3 Hh4 Hh5]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [Hg]
    · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 1) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.KernelIdeal.Tile.lean ====
/- One 256 by 256 block of a packed product, read at an index: the sixteen rows of the block's result are the
   accumulator plus, over the 256 columns of the left operand, the operand times the decoded code times its two
   scale parts. -/
module

public import proofs.«01_k».proof.Proof.KernelIdeal.Kit
public import Idealize.ShloMosaic.Lib.Pointwise
public import Idealize.ShloMosaic.Lib.BitcastFour
public import Idealize.ShloMosaic.Lib.BitcastPair

@[expose] public section

set_option maxRecDepth 16384
set_option maxHeartbeats 4000000

noncomputable section

namespace Cert.KernelIdeal.Hand

open Cert.KernelIdeal.Gen
open Idealize.ShloMosaic Idealize.ShloMosaic.TcCoe

/-- The code a byte holds in its field `p` (0 the low four bits, 1 the high four), less eight. -/
def code (b : BitVec 8) (p : ℕ) : EReal :=
  ((((if p = 0 then b.toNat % 16 else b.toNat / 16 : ℕ) : ℤ) - 8 : ℤ) : ℝ)

/-- One word of the decoded pair, as an integer: its low half is the low field less eight, its high half the
    high field less eight. -/
theorem word_lo : ∀ b : BitVec 8,
    ((IntOp.ori (IntOp.andi (IntOp.shrsi .vector (IntOp.shli .vector (BitVec.signExtend 32 (b ^^^ 136#8)) 28#32) 28#32) 65535#32)
      (IntOp.shli .vector (IntOp.shrsi .vector (BitVec.signExtend 32 (b ^^^ 136#8)) 4#32) 16#32)).extractLsb' 0 16).toInt
      = ((b.toNat % 16 : ℕ) : ℤ) - 8 := by decide +kernel

theorem word_hi : ∀ b : BitVec 8,
    ((IntOp.ori (IntOp.andi (IntOp.shrsi .vector (IntOp.shli .vector (BitVec.signExtend 32 (b ^^^ 136#8)) 28#32) 28#32) 65535#32)
      (IntOp.shli .vector (IntOp.shrsi .vector (BitVec.signExtend 32 (b ^^^ 136#8)) 4#32) 16#32)).extractLsb' 16 16).toInt
      = ((b.toNat / 16 : ℕ) : ℤ) - 8 := by decide +kernel

/-- Flipping the top bit of each field of four bytes at once flips it in each byte. -/
theorem flip_bytes (x : IVec S128x256 8) (j : S128x256.Idx) :
    bitcast S128x256 8 (xori (bitcast S32x256 32 x bitcasts_S128x256_w8_S32x256_w32) (broadcast S32x256 2290649224#32))
      bitcasts_S32x256_w32_S128x256_w8 j = x j ^^^ 136#8 := by
  apply BitVec.eq_of_getLsbD_eq
  intro i hi
  rw [bitcast_getLsbD _ bitcasts_S32x256_w32_S128x256_w8 j i hi (by decide)]
  show (bitcast S32x256 32 x bitcasts_S128x256_w8_S32x256_w32 _ ^^^ 2290649224#32).getLsbD _ = _
  rw [BitVec.getLsbD_xor, bitcast_8_32_getLsbD x _ _ _ (Nat.mod_lt _ (by decide)), BitVec.getLsbD_xor]
  have hj : S128x256.row j = (j 0).val := rfl
  have hr : ∀ p hp, S32x256.row (Shape.Bitcasts.srcIdx bitcasts_S32x256_w32_S128x256_w8 j p hp) = p := fun p hp => rfl
  have hb : (2290649224#32).getLsbD ((S128x256.row j * 8 + i) % 32) = (136#8).getLsbD i := by
    have h1 : (S128x256.row j * 8 + i) % 32 = 8 * (S128x256.row j % 4) + i := by omega
    have h2 : S128x256.row j % 4 < 4 := Nat.mod_lt _ (by decide)
    rw [h1]
    generalize S128x256.row j % 4 = r at h2
    interval_cases r <;> interval_cases i <;> rfl
  rw [hb]
  congr 2
  · have e : (S128x256.row j * 8 + i) % 32 % 8 = i := by omega
    congr 1
    funext a
    match a with
    | ⟨0, _⟩ => exact Fin.ext (show 4 * ((S128x256.row j * 8 + i) / 32) + (S128x256.row j * 8 + i) % 32 / 8 = (j 0).val by omega)
    | ⟨1, _⟩ => rfl
  · omega

theorem codes_apply (q : IVec S256x128 8) (i c : Fin 256) :
    k0_pay28 (F := Ideal) q (ix2 i c) = code (q (ix2 c ⟨i.val / 2, by omega⟩)) (i.val % 2) := by
  have h0 : k0_pay28 (F := Ideal) q (ix2 i c) = sitofp (F := Ideal) .bf16 (bitcast S256x256 16 (fun j : S128x256.Idx =>
      IntOp.ori (IntOp.andi (IntOp.shrsi .vector (IntOp.shli .vector (BitVec.signExtend 32 (bitcast S128x256 8 (xori (bitcast S32x256 32 (transpose S128x256 [1, 0] q transposes_S256x128_p1_0_S128x256) bitcasts_S128x256_w8_S32x256_w32) (broadcast S32x256 2290649224#32))
      bitcasts_S32x256_w32_S128x256_w8 j)) 28#32) 28#32) 65535#32)
      (IntOp.shli .vector (IntOp.shrsi .vector (BitVec.signExtend 32 (bitcast S128x256 8 (xori (bitcast S32x256 32 (transpose S128x256 [1, 0] q transposes_S256x128_p1_0_S128x256) bitcasts_S128x256_w8_S32x256_w32) (broadcast S32x256 2290649224#32))
      bitcasts_S32x256_w32_S128x256_w8 j)) 4#32) 16#32)) bitcasts_S128x256_w32_S256x256_w16) (ix2 i c) := rfl
  rw [h0]
  simp only [flip_bytes]
  show (((bitcast S256x256 16 _ bitcasts_S128x256_w32_S256x256_w16 (ix2 i c)).toInt : ℝ) : EReal) = _
  rw [bitcast_32_16]
  have ht : ∀ p hp, transpose S128x256 [1, 0] q transposes_S256x128_p1_0_S128x256 (Shape.Bitcasts.srcIdx bitcasts_S128x256_w32_S256x256_w16 (ix2 i c) p hp)
      = q (ix2 c ⟨p, hp 0 rfl⟩) := fun p hp => congrArg q (funext fun a => match a with | ⟨0, _⟩ => rfl | ⟨1, _⟩ => rfl)
  rw [ht]
  have key : ∀ (b : BitVec 8) (p : ℕ), p < 2 →
      ((IntOp.ori (IntOp.andi (IntOp.shrsi .vector (IntOp.shli .vector (BitVec.signExtend 32 (b ^^^ 136#8)) 28#32) 28#32) 65535#32)
        (IntOp.shli .vector (IntOp.shrsi .vector (BitVec.signExtend 32 (b ^^^ 136#8)) 4#32) 16#32)).extractLsb' (16 * p) 16).toInt
        = ((if p = 0 then b.toNat % 16 else b.toNat / 16 : ℕ) : ℤ) - 8 := by
    intro b p hp
    rcases Nat.le_one_iff_eq_zero_or_eq_one.mp (Nat.le_of_lt_succ hp) with rfl | rfl
    · exact word_lo b
    · exact word_hi b
  exact congrArg (fun z : ℤ => ((z : ℝ) : EReal)) (key (q (ix2 c ⟨i.val / 2, by omega⟩)) (i.val % 2) (Nat.mod_lt _ (by decide)))

/-- One group of 32 rows of decoded weights: the codes times the two parts of their scale. -/
def grp (w : FVec Ideal S256x256 .bf16) (off : Fin 2 → ℕ) (hs : S256x256.Slices off S32x256) (h l : FVec Ideal S1x1x256 .f32) :
    FVec Ideal S32x256 .bf16 :=
  addf (mulf (extractStridedSlice S32x256 off w hs) (truncf .bf16 (broadcastTo S32x256 (shapeCast S1x256
      (shapeCast S1x256 h shapeCasts_S1x1x256_S1x256) shapeCasts_S1x256_S1x256) broadcasts_S1x256_S32x256) bitsLt_bf16_f32))
    (mulf (extractStridedSlice S32x256 off w hs) (truncf .bf16 (broadcastTo S32x256 (shapeCast S1x256
      (shapeCast S1x256 l shapeCasts_S1x1x256_S1x256) shapeCasts_S1x256_S1x256) broadcasts_S1x256_S32x256) bitsLt_bf16_f32))

/-- The block's 256 rows of decoded weights: eight groups. -/
def weights (w : FVec Ideal S256x256 .bf16) (h0 l0 h1 l1 h2 l2 h3 l3 h4 l4 h5 l5 h6 l6 h7 l7 : FVec Ideal S1x1x256 .f32) :
    FVec Ideal S256x256 .bf16 :=
  concatenate S256x256 0 [⟨S32x256, grp w ![0, 0] slices_S256x256_o0_0_S32x256 h0 l0⟩,
    ⟨S32x256, grp w ![32, 0] slices_S256x256_o32_0_S32x256 h1 l1⟩,
    ⟨S32x256, grp w ![64, 0] slices_S256x256_o64_0_S32x256 h2 l2⟩,
    ⟨S32x256, grp w ![96, 0] slices_S256x256_o96_0_S32x256 h3 l3⟩,
    ⟨S32x256, grp w ![128, 0] slices_S256x256_o128_0_S32x256 h4 l4⟩,
    ⟨S32x256, grp w ![160, 0] slices_S256x256_o160_0_S32x256 h5 l5⟩,
    ⟨S32x256, grp w ![192, 0] slices_S256x256_o192_0_S32x256 h6 l6⟩,
    ⟨S32x256, grp w ![224, 0] slices_S256x256_o224_0_S32x256 h7 l7⟩]
    concatenates_S32x256_S32x256_S32x256_S32x256_S32x256_S32x256_S32x256_S32x256_S256x256_d0

theorem grp_apply (w : FVec Ideal S256x256 .bf16) (o : ℕ) (hs : S256x256.Slices ![o, 0] S32x256) (h l : FVec Ideal S1x1x256 .f32)
    (r : Fin 32) (i c : Fin 256) (ho : i.val = o + r.val) :
    grp w ![o, 0] hs h l (ix2 r c) = w (ix2 i c) * h (ix3 0 0 c) + w (ix2 i c) * l (ix3 0 0 c) := by
  have hw : extractStridedSlice S32x256 ![o, 0] w hs (ix2 r c) = w (ix2 i c) :=
    congrArg w (funext fun a => match a with | ⟨0, _⟩ => Fin.ext ho.symm | ⟨1, _⟩ => Fin.ext (Nat.zero_add _))
  unfold grp
  rw [← hw]
  generalize extractStridedSlice S32x256 ![o, 0] w hs = w'
  pointwise

theorem weights_apply (w : FVec Ideal S256x256 .bf16) (h0 l0 h1 l1 h2 l2 h3 l3 h4 l4 h5 l5 h6 l6 h7 l7 : FVec Ideal S1x1x256 .f32)
    (i c : Fin 256) :
    weights w h0 l0 h1 l1 h2 l2 h3 l3 h4 l4 h5 l5 h6 l6 h7 l7 (ix2 i c)
      = w (ix2 i c) * (![h0, h1, h2, h3, h4, h5, h6, h7] ⟨i.val / 32, by omega⟩ (ix3 0 0 c))
        + w (ix2 i c) * (![l0, l1, l2, l3, l4, l5, l6, l7] ⟨i.val / 32, by omega⟩ (ix3 0 0 c)) := by
  have hi := i.isLt
  obtain ⟨g, r, hgr⟩ : ∃ (g : Fin 8) (r : Fin 32), i.val = 32 * g.val + r.val :=
    ⟨⟨i.val / 32, by omega⟩, ⟨i.val % 32, by omega⟩, by simp only; omega⟩
  have hr := r.isLt
  have hg : (⟨i.val / 32, by omega⟩ : Fin 8) = g := Fin.ext (by simp only; omega)
  rw [hg]
  clear hg
  unfold weights
  pointwise
  fin_cases g
  all_goals
    simp only at hgr
    repeat first | rw [dif_pos (by omega)] | rw [dif_neg (by omega)]
    exact grp_apply w _ _ _ _ _ i c (by simp only; omega)

/-- The block's payload: the accumulator plus the product of the left operand with the decoded weights. -/
def tile (x : FVec Ideal S16x256 .bf16) (acc : FVec Ideal S1x16x256 .f32) (q : IVec S256x128 8)
    (h0 l0 h1 l1 h2 l2 h3 l3 h4 l4 h5 l5 h6 l6 h7 l7 : FVec Ideal S1x1x256 .f32) : FVec Ideal S1x16x256 .f32 :=
  shapeCast S1x16x256 (addf (shapeCast S16x256 acc shapeCasts_S1x16x256_S16x256)
    (matmul dot_S16x256_S256x256_S16x256_1_0_0_1_n_n none (shapeCast S16x256 x shapeCasts_S16x256_S16x256)
      (weights (k0_pay28 (F := Ideal) q) h0 l0 h1 l1 h2 l2 h3 l3 h4 l4 h5 l5 h6 l6 h7 l7) (constant S16x256 .f32 0x00000000#32)))
    shapeCasts_S16x256_S1x16x256

theorem tile_apply (x : FVec Ideal S16x256 .bf16) (acc : FVec Ideal S1x16x256 .f32) (q : IVec S256x128 8)
    (h0 l0 h1 l1 h2 l2 h3 l3 h4 l4 h5 l5 h6 l6 h7 l7 : FVec Ideal S1x1x256 .f32) (b : Fin 16) (c : Fin 256) :
    tile x acc q h0 l0 h1 l1 h2 l2 h3 l3 h4 l4 h5 l5 h6 l6 h7 l7 (ix3 0 b c)
      = acc (ix3 0 b c) + ∑ i : Fin 256, x (ix2 b i)
        * (code (q (ix2 c ⟨i.val / 2, by omega⟩)) (i.val % 2)
            * (![h0, h1, h2, h3, h4, h5, h6, h7] ⟨i.val / 32, by omega⟩ (ix3 0 0 c))
          + code (q (ix2 c ⟨i.val / 2, by omega⟩)) (i.val % 2)
            * (![l0, l1, l2, l3, l4, l5, l6, l7] ⟨i.val / 32, by omega⟩ (ix3 0 0 c))) := by
  simp only [← codes_apply, ← weights_apply]
  unfold tile
  generalize weights (k0_pay28 (F := Ideal) q) h0 l0 h1 l1 h2 l2 h3 l3 h4 l4 h5 l5 h6 l6 h7 l7 = w
  pointwise

/-! ## The same over whole arrays, read at natural coordinates -/

/-- An array of two axes at natural coordinates (a fixed element outside its extents). -/
def at2 {α : Type} [Inhabited α] {n0 n1 : ℕ} (f : (⟨2, ![n0, n1]⟩ : Shape).Idx → α) (i j : ℕ) : α :=
  if h : i < n0 ∧ j < n1 then f (ix2 ⟨i, h.1⟩ ⟨j, h.2⟩) else default

/-- An array of three axes at natural coordinates. -/
def at3 {α : Type} [Inhabited α] {n0 n1 n2 : ℕ} (f : (⟨3, ![n0, n1, n2]⟩ : Shape).Idx → α) (i j k : ℕ) : α :=
  if h : i < n0 ∧ j < n1 ∧ k < n2 then f (ix3 ⟨i, h.1⟩ ⟨j, h.2.1⟩ ⟨k, h.2.2⟩) else default

theorem at2_ix {α : Type} [Inhabited α] {n0 n1 : ℕ} (f : (⟨2, ![n0, n1]⟩ : Shape).Idx → α) (i : Fin n0) (j : Fin n1) :
    at2 f i.val j.val = f (ix2 i j) := dif_pos ⟨i.isLt, j.isLt⟩

theorem at3_ix {α : Type} [Inhabited α] {n0 n1 n2 : ℕ} (f : (⟨3, ![n0, n1, n2]⟩ : Shape).Idx → α) (i : Fin n0) (j : Fin n1)
    (k : Fin n2) : at3 f i.val j.val k.val = f (ix3 i j k) := dif_pos ⟨i.isLt, j.isLt, k.isLt⟩

/-- A load of a block of a two-axis buffer. -/
abbrev ld2 {κ : Kind} {sp : Space} {n0 n1 : ℕ} {e : EltTy} (v : View sig κ sp (⟨2, ![n0, n1]⟩ : Shape) e)
    (X : v.ty.Contents (Elt Ideal)) (o : Fin 2 → ℕ) (s0 s1 : ℕ)
    (inb : ∀ a, o a + (![s0, s1] : Fin 2 → ℕ) a ≤ (![n0, n1] : Fin 2 → ℕ) a) : (⟨2, ![s0, s1]⟩ : Shape).Idx → Elt Ideal e :=
  View.readAt (Elt Ideal) v (Rect.unit (s := ⟨2, ![n0, n1]⟩) o ![s0, s1] inb).toLoadRect X

/-- A load of a block of a three-axis buffer. -/
abbrev ld3 {κ : Kind} {sp : Space} {n0 n1 n2 : ℕ} {e : EltTy} (v : View sig κ sp (⟨3, ![n0, n1, n2]⟩ : Shape) e)
    (X : v.ty.Contents (Elt Ideal)) (o : Fin 3 → ℕ) (s0 s1 s2 : ℕ)
    (inb : ∀ a, o a + (![s0, s1, s2] : Fin 3 → ℕ) a ≤ (![n0, n1, n2] : Fin 3 → ℕ) a) : (⟨3, ![s0, s1, s2]⟩ : Shape).Idx → Elt Ideal e :=
  View.readAt (Elt Ideal) v (Rect.unit (s := ⟨3, ![n0, n1, n2]⟩) o ![s0, s1, s2] inb).toLoadRect X

/-- A load of a block of a two-axis buffer, at an index: the buffer at the block's offsets plus the index. -/
theorem readAt2 {α : Type} [Inhabited α] {κ : Kind} {sp : Space} {n0 n1 s0 s1 : ℕ} {e : EltTy} (he : Elt Ideal e = α)
    (v : View sig κ sp (⟨2, ![n0, n1]⟩ : Shape) e) (X : v.ty.Contents (Elt Ideal)) (o : Fin 2 → ℕ)
    (inb : ∀ a, o a + (![s0, s1] : Fin 2 → ℕ) a ≤ (![n0, n1] : Fin 2 → ℕ) a) (i : Fin s0) (j : Fin s1) :
    (he ▸ ld2 v X o s0 s1 inb (ix2 i j) : α)
      = at2 (fun y => (he ▸ v.read (Elt Ideal) X y : α)) (o 0 + i.val) (o 1 + j.val) := by
  subst he
  have h0 : o 0 + s0 ≤ n0 := inb 0
  have h1 : o 1 + s1 ≤ n1 := inb 1
  have hi := i.isLt
  have hj := j.isLt
  unfold at2
  rw [dif_pos ⟨by omega, by omega⟩]
  refine congrArg (v.read (Elt Ideal) X) (funext fun a => Fin.ext ?_)
  match a with
  | ⟨0, _⟩ => exact congrArg (o 0 + ·) (Nat.one_mul _)
  | ⟨1, _⟩ => exact congrArg (o 1 + ·) (Nat.one_mul _)

/-- The same with three axes. -/
theorem readAt3 {α : Type} [Inhabited α] {κ : Kind} {sp : Space} {n0 n1 n2 s0 s1 s2 : ℕ} {e : EltTy} (he : Elt Ideal e = α)
    (v : View sig κ sp (⟨3, ![n0, n1, n2]⟩ : Shape) e) (X : v.ty.Contents (Elt Ideal)) (o : Fin 3 → ℕ)
    (inb : ∀ a, o a + (![s0, s1, s2] : Fin 3 → ℕ) a ≤ (![n0, n1, n2] : Fin 3 → ℕ) a) (i : Fin s0) (j : Fin s1) (k : Fin s2) :
    (he ▸ ld3 v X o s0 s1 s2 inb (ix3 i j k) : α)
      = at3 (fun y => (he ▸ v.read (Elt Ideal) X y : α)) (o 0 + i.val) (o 1 + j.val) (o 2 + k.val) := by
  subst he
  have h0 : o 0 + s0 ≤ n0 := inb 0
  have h1 : o 1 + s1 ≤ n1 := inb 1
  have h2 : o 2 + s2 ≤ n2 := inb 2
  have hi := i.isLt
  have hj := j.isLt
  have hk := k.isLt
  unfold at3
  rw [dif_pos ⟨by omega, by omega, by omega⟩]
  refine congrArg (v.read (Elt Ideal) X) (funext fun a => Fin.ext ?_)
  match a with
  | ⟨0, _⟩ => exact congrArg (o 0 + ·) (Nat.one_mul _)
  | ⟨1, _⟩ => exact congrArg (o 1 + ·) (Nat.one_mul _)
  | ⟨2, _⟩ => exact congrArg (o 2 + ·) (Nat.one_mul _)

/-- The decoded weight of output column `o` at position `j` of the contraction: the code in byte `j / 2` of the row
    times the two parts of the scale of its 32-position group. -/
def wt {N K2 GH : ℕ} (q : (⟨2, ![N, K2]⟩ : Shape).Idx → BitVec 8) (hi lo : (⟨3, ![2, GH, N]⟩ : Shape).Idx → EReal) (o j : ℕ) : EReal :=
  code (at2 q o (j / 2)) (j % 2) * at3 hi (j / 32 % 2) (j / 64) o + code (at2 q o (j / 2)) (j % 2) * at3 lo (j / 32 % 2) (j / 64) o

/-- What one trip of a product loop adds to the accumulator: 256 positions of the contraction. -/
def stepA {NT KX N K2 GH : ℕ} (x : (⟨2, ![16, KX]⟩ : Shape).Idx → EReal) (q : (⟨2, ![N, K2]⟩ : Shape).Idx → BitVec 8)
    (hi lo : (⟨3, ![2, GH, N]⟩ : Shape).Idx → EReal) (k : ℕ) (g : (⟨3, ![NT, 16, 256]⟩ : Shape).Idx → EReal)
    (y : (⟨3, ![NT, 16, 256]⟩ : Shape).Idx) : EReal :=
  g y + ∑ i : Fin 256, at2 x (y 1).val (256 * k + i.val) * wt q hi lo (256 * (y 0).val + (y 2).val) (256 * k + i.val)

/-- The accumulator after `k` trips. -/
def accA {NT KX N K2 GH : ℕ} (x : (⟨2, ![16, KX]⟩ : Shape).Idx → EReal) (q : (⟨2, ![N, K2]⟩ : Shape).Idx → BitVec 8)
    (hi lo : (⟨3, ![2, GH, N]⟩ : Shape).Idx → EReal) (g : (⟨3, ![NT, 16, 256]⟩ : Shape).Idx → EReal) :
    ℕ → (⟨3, ![NT, 16, 256]⟩ : Shape).Idx → EReal
  | 0 => g
  | k + 1 => stepA x q hi lo k (accA x q hi lo g k)

/-- One block's store, at an index of the block: what the trip leaves in the accumulator there. -/
theorem tile_piece {NT KX N K2 GH : ℕ} {κ : Kind}
    (vx : View sig κ .vmem (⟨2, ![16, KX]⟩ : Shape) .bf16) (X : vx.ty.Contents (Elt Ideal))
    (vq : View sig κ .vmem (⟨2, ![N, K2]⟩ : Shape) .i8) (Q : vq.ty.Contents (Elt Ideal))
    (vh vl : View sig κ .vmem (⟨3, ![2, GH, N]⟩ : Shape) .f32) (H : vh.ty.Contents (Elt Ideal)) (L : vl.ty.Contents (Elt Ideal))
    (va : View sig κ .vmem (⟨3, ![NT, 16, 256]⟩ : Shape) .f32) (A : va.ty.Contents (Elt Ideal))
    (k : ℕ) {n : ℕ} {ox oq : Fin 2 → ℕ} {oa o0 o1 o2 o3 o4 o5 o6 o7 : Fin 3 → ℕ} {ix iq ia i0 i1 i2 i3 i4 i5 i6 i7}
    (ha : oa = ![n, 0, 0]) (hx : ox = ![0, 256 * k]) (hq : oq = ![256 * n, 128 * k])
    (h0 : o0 = ![0, 4 * k + 0, 256 * n]) (h1 : o1 = ![1, 4 * k + 0, 256 * n]) (h2 : o2 = ![0, 4 * k + 1, 256 * n])
    (h3 : o3 = ![1, 4 * k + 1, 256 * n]) (h4 : o4 = ![0, 4 * k + 2, 256 * n]) (h5 : o5 = ![1, 4 * k + 2, 256 * n])
    (h6 : o6 = ![0, 4 * k + 3, 256 * n]) (h7 : o7 = ![1, 4 * k + 3, 256 * n])
    (y : S1x16x256.Idx) :
    tile (ld2 vx X ox 16 256 ix)
      (ld3 va A oa 1 16 256 ia)
      (ld2 vq Q oq 256 128 iq)
      (ld3 vh H o0 1 1 256 i0) (ld3 vl L o0 1 1 256 i0)
      (ld3 vh H o1 1 1 256 i1) (ld3 vl L o1 1 1 256 i1)
      (ld3 vh H o2 1 1 256 i2) (ld3 vl L o2 1 1 256 i2)
      (ld3 vh H o3 1 1 256 i3) (ld3 vl L o3 1 1 256 i3)
      (ld3 vh H o4 1 1 256 i4) (ld3 vl L o4 1 1 256 i4)
      (ld3 vh H o5 1 1 256 i5) (ld3 vl L o5 1 1 256 i5)
      (ld3 vh H o6 1 1 256 i6) (ld3 vl L o6 1 1 256 i6)
      (ld3 vh H o7 1 1 256 i7) (ld3 vl L o7 1 1 256 i7) y
      = stepA (vx.read (Elt Ideal) X) (vq.read (Elt Ideal) Q) (vh.read (Elt Ideal) H) (vl.read (Elt Ideal) L) k
          (va.read (Elt Ideal) A) ((Rect.unit (s := ⟨3, ![NT, 16, 256]⟩) oa ![1, 16, 256] ia).emb y) := by
  subst hx hq ha h0 h1 h2 h3 h4 h5 h6 h7
  obtain ⟨z, b, c, rfl⟩ : ∃ (z : Fin 1) (b : Fin 16) (c : Fin 256), y = ix3 z b c := ⟨y 0, y 1, y 2, eq_ix3 y⟩
  obtain rfl : z = 0 := Subsingleton.elim _ _
  rw [tile_apply]
  unfold stepA
  have hemb : (Rect.unit (s := ⟨3, ![NT, 16, 256]⟩) ![n, 0, 0] ![1, 16, 256] ia).emb (ix3 0 b c)
      = ix3 ⟨n, by have := ia 0; exact this⟩ b c := by
    funext a
    match a with
    | ⟨0, _⟩ => exact Fin.ext (show n + 1 * 0 = n by omega)
    | ⟨1, _⟩ => exact Fin.ext (show 0 + 1 * b.val = b.val by omega)
    | ⟨2, _⟩ => exact Fin.ext (show 0 + 1 * c.val = c.val by omega)
  rw [hemb]
  congr 1
  · exact congrArg (va.read (Elt Ideal) A) hemb
  refine Finset.sum_congr rfl fun i _ => ?_
  have hi := i.isLt
  have rx := readAt2 (α := EReal) rfl vx X _ ix b i
  have rq := readAt2 (α := BitVec 8) rfl vq Q _ iq c ⟨i.val / 2, by omega⟩
  have rs : ∀ (v : View sig κ .vmem (⟨3, ![2, GH, N]⟩ : Shape) .f32) (S : v.ty.Contents (Elt Ideal)),
      ![ld3 v S _ 1 1 256 i0, ld3 v S _ 1 1 256 i1, ld3 v S _ 1 1 256 i2, ld3 v S _ 1 1 256 i3, ld3 v S _ 1 1 256 i4,
          ld3 v S _ 1 1 256 i5, ld3 v S _ 1 1 256 i6, ld3 v S _ 1 1 256 i7] ⟨i.val / 32, by omega⟩ (ix3 0 0 c)
        = at3 (α := EReal) (v.read (Elt Ideal) S) ((256 * k + i.val) / 32 % 2) ((256 * k + i.val) / 64) (256 * n + c.val) := by
    intro v S
    obtain ⟨g, r, hg⟩ : ∃ (g : Fin 8) (r : Fin 32), i.val = 32 * g.val + r.val :=
      ⟨⟨i.val / 32, by omega⟩, ⟨i.val % 32, by omega⟩, by simp only; omega⟩
    have hr := r.isLt
    have hg' : (⟨i.val / 32, by omega⟩ : Fin 8) = g := Fin.ext (by simp only; omega)
    rw [hg']
    clear hg'
    fin_cases g
    all_goals
      simp only at hg
      refine (readAt3 (α := EReal) rfl v S _ _ 0 0 c).trans ?_
      exact congrArg₂ (fun p q => at3 (α := EReal) (v.read (Elt Ideal) S) p q (256 * n + c.val)) (by simp; omega) (by simp; omega)
  have e1 : (256 * k + i.val) / 2 = 128 * k + i.val / 2 := by omega
  have e2 : (256 * k + i.val) % 2 = i.val % 2 := by omega
  unfold wt
  rw [e1, e2]
  refine congrArg₂ (· * ·) (rx.trans ?_) (congrArg₂ (· + ·) (congrArg₂ (· * ·) (congrArg (code · _) rq) (rs vh H))
    (congrArg₂ (· * ·) (congrArg (code · _) rq) (rs vl L)))
  exact congrArg (fun z => at2 (α := EReal) (vx.read (Elt Ideal) X) z (256 * k + i.val)) (Nat.zero_add _)

end Cert.KernelIdeal.Hand
-- ==== Proof.KernelIdeal.Prep.lean ====
/- The decoded scales: what a scale loop leaves in its two scratch arrays, one 128-column block a trip. A scale is a
   16-bit word; two neighbouring words make one 32-bit word, whose parts are rounded and remainder. -/
module

public import proofs.«01_k».proof.Proof.KernelIdeal.Tile

@[expose] public section

set_option maxRecDepth 16384
set_option maxHeartbeats 4000000

noncomputable section

namespace Cert.KernelIdeal.Hand

open Cert.KernelIdeal.Gen
open Idealize.ShloMosaic Idealize.ShloMosaic.TcCoe

/-- The word's magnitude bits at the wide format's exponent bias. -/
def magB (b : BitVec 32) : BitVec 32 := IntOp.addi (IntOp.andi (IntOp.shrui .vector b 3#32) 268427264#32) 939524096#32

/-- The value of magnitude bits `m` under the sign of `b`; the smaller of the two readings is right for both the
    normal and the subnormal words. -/
def fval (m b : BitVec 32) : EReal :=
  Scalar.select (IntOp.cmpi .ne (IntOp.andi b 2147483648#32) 0#32)
    (0 - min (Ideal.ofBits FTy.f32 m) (Ideal.ofBits FTy.f32 m + Ideal.ofBits FTy.f32 m - Ideal.ofBits FTy.f32 947912704#32))
    (min (Ideal.ofBits FTy.f32 m) (Ideal.ofBits FTy.f32 m + Ideal.ofBits FTy.f32 m - Ideal.ofBits FTy.f32 947912704#32))

/-- The rounded part of a scale. -/
def hiB (b : BitVec 32) : EReal := fval (IntOp.andi (IntOp.addi (magB b) 262144#32) 4294443008#32) b

/-- What rounding left over. -/
def loB (b : BitVec 32) : EReal := fval (magB b) b - hiB b

/-- `fval` over an array. -/
def fvalV {s : Shape} (m b : IVec s 32) : FVec Ideal s .f32 :=
  select (cmpi .ne (andi b (broadcast s 2147483648#32)) (broadcast s 0#32))
    (subf (broadcast s (Scalar.ofBits .f32 0x00000000#32)) (minimumf (bitcastToFloat .f32 m) (subf (addf (bitcastToFloat .f32 m) (bitcastToFloat .f32 m)) (broadcast s (Scalar.ofBits .f32 0x38800000#32)))))
    (minimumf (bitcastToFloat .f32 m) (subf (addf (bitcastToFloat .f32 m) (bitcastToFloat .f32 m)) (broadcast s (Scalar.ofBits .f32 0x38800000#32))))

def magV {s : Shape} (b : IVec s 32) : IVec s 32 := addi (andi (shrui b (broadcast s 3#32)) (broadcast s 268427264#32)) (broadcast s 939524096#32)

def hiV {s : Shape} (b : IVec s 32) : FVec Ideal s .f32 :=
  fvalV (andi (addi (magV b) (broadcast s 262144#32)) (broadcast s 4294443008#32)) b

def loV {s : Shape} (b : IVec s 32) : FVec Ideal s .f32 := subf (fvalV (magV b) b) (hiV b)

theorem fvalV_apply {s : Shape} (m b : IVec s 32) (i : s.Idx) : fvalV m b i = fval (m i) (b i) := by
  unfold fvalV fval
  pointwise

theorem hiV_apply {s : Shape} (b : IVec s 32) (i : s.Idx) : hiV b i = hiB (b i) := fvalV_apply _ _ i

theorem loV_apply {s : Shape} (b : IVec s 32) (i : s.Idx) : loV b i = loB (b i) := by
  unfold loV loB
  rw [subf_apply, fvalV_apply, hiV_apply]
  rfl

/-- The 32-bit word a pair's field `p` is read from: the pair's low word moved up, or the pair itself. -/
def pairBits {N G : ℕ} (X : (⟨2, ![N, G]⟩ : Shape).Idx → BitVec 16) (p r o : ℕ) : BitVec 32 :=
  if p = 0 then IntOp.shli .vector (at2 X o (2 * r + 1) ++ at2 X o (2 * r)) 16#32 else at2 X o (2 * r + 1) ++ at2 X o (2 * r)

/-- The columns below `128 k` decoded in the first `half` rows, the rest as it was. -/
def prepB {N G RH : ℕ} (half : ℕ) (f : BitVec 32 → EReal) (X : (⟨2, ![N, G]⟩ : Shape).Idx → BitVec 16)
    (g : (⟨3, ![2, RH, N]⟩ : Shape).Idx → EReal) (k : ℕ) (y : (⟨3, ![2, RH, N]⟩ : Shape).Idx) : EReal :=
  if (y 1).val < half ∧ (y 2).val < 128 * k then f (pairBits X (y 0).val (y 1).val (y 2).val) else g y

/-- What a scale loop leaves after `k` trips. -/
def prepA {N G RH : ℕ} (half : ℕ) (f : BitVec 32 → EReal) (X : (⟨2, ![N, G]⟩ : Shape).Idx → BitVec 16)
    (g : (⟨3, ![2, RH, N]⟩ : Shape).Idx → EReal) : ℕ → (⟨3, ![2, RH, N]⟩ : Shape).Idx → EReal
  | 0 => g
  | k + 1 => prepB half f X g (k + 1)

theorem prepA_eq {N G RH : ℕ} (half : ℕ) (f : BitVec 32 → EReal) (X : (⟨2, ![N, G]⟩ : Shape).Idx → BitVec 16)
    (g : (⟨3, ![2, RH, N]⟩ : Shape).Idx → EReal) : ∀ k, prepA half f X g k = prepB half f X g k
  | 0 => funext fun y => (if_neg fun h => by omega).symm
  | k + 1 => rfl

/-- One stored block of a trip, at an index of the block. -/
theorem prep_emb {N G RH half : ℕ} (f : BitVec 32 → EReal) (X : (⟨2, ![N, G]⟩ : Shape).Idx → BitVec 16)
    (g : (⟨3, ![2, RH, N]⟩ : Shape).Idx → EReal) (k p : ℕ)
    (inb : ∀ a, (![p, 0, 128 * k] : Fin 3 → ℕ) a + (![1, half, 128] : Fin 3 → ℕ) a ≤ (![2, RH, N] : Fin 3 → ℕ) a)
    (w : (⟨3, ![1, half, 128]⟩ : Shape).Idx → EReal)
    (h : ∀ (r : Fin half) (c : Fin 128), w (ix3 0 r c) = f (pairBits X p r.val (128 * k + c.val)))
    (x : (⟨3, ![1, half, 128]⟩ : Shape).Idx) :
    w x = prepB half f X g (k + 1) ((Rect.unit (s := ⟨3, ![2, RH, N]⟩) ![p, 0, 128 * k] ![1, half, 128] inb).emb x) := by
  rw [eq_ix3 x]
  rw [show x 0 = (0 : Fin 1) from Subsingleton.elim (α := Fin 1) _ _]
  generalize x 1 = r, x 2 = c
  refine (h r c).trans ?_
  unfold prepB
  rw [if_pos]
  · refine congrArg f ?_
    show _ = pairBits X (p + 1 * 0) (0 + 1 * r.val) (128 * k + 1 * c.val)
    simp only [Nat.one_mul, Nat.mul_zero, Nat.add_zero, Nat.zero_add]
  · refine ⟨?_, ?_⟩
    · show 0 + 1 * r.val < half
      have := r.isLt
      change r.val < half at this
      omega
    · show 128 * k + 1 * c.val < 128 * (k + 1)
      have := c.isLt
      change c.val < 128 at this
      omega

/-- One trip: the two stored blocks decoded, the rest kept. -/
theorem prep_step {N G RH half : ℕ} {κ : Kind} (v : View sig κ .vmem (⟨3, ![2, RH, N]⟩ : Shape) .f32) (A : v.ty.Contents (Elt Ideal))
    (f : BitVec 32 → EReal) (X : (⟨2, ![N, G]⟩ : Shape).Idx → BitVec 16) (g : (⟨3, ![2, RH, N]⟩ : Shape).Idx → EReal) (k : ℕ)
    (hA : v.read (Elt Ideal) A = prepA half f X g k) {o0 o1 : Fin 3 → ℕ}
    {i0 : ∀ a, o0 a + (![1, half, 128] : Fin 3 → ℕ) a ≤ (![2, RH, N] : Fin 3 → ℕ) a}
    {i1 : ∀ a, o1 a + (![1, half, 128] : Fin 3 → ℕ) a ≤ (![2, RH, N] : Fin 3 → ℕ) a}
    {w0 w1 : (⟨3, ![1, half, 128]⟩ : Shape).Idx → EReal}
    (e0 : o0 = ![0, 0, 128 * k]) (e1 : o1 = ![1, 0, 128 * k])
    (h0 : ∀ (r : Fin half) (c : Fin 128), w0 (ix3 0 r c) = f (pairBits X 0 r.val (128 * k + c.val)))
    (h1 : ∀ (r : Fin half) (c : Fin 128), w1 (ix3 0 r c) = f (pairBits X 1 r.val (128 * k + c.val))) :
    v.read (Elt Ideal) (v.writes (Elt Ideal) A [⟨Rect.unit (s := ⟨3, ![2, RH, N]⟩) o1 ![1, half, 128] i1, w1⟩,
      ⟨Rect.unit (s := ⟨3, ![2, RH, N]⟩) o0 ![1, half, 128] i0, w0⟩]) = prepA half f X g (k + 1) := by
  rw [prepA_eq] at hA ⊢
  subst e0 e1
  funext y
  have hy0 : (y 0).val < 2 := (y 0).isLt
  by_cases hin : (y 1).val < half ∧ 128 * k ≤ (y 2).val ∧ (y 2).val < 128 * k + 128
  · refine View.read_writes_apply_of_pieces v A (prepB half f X g (k + 1)) _ ?_ y ?_
    · refine List.forall_mem_cons.2 ⟨?_, List.forall_mem_cons.2 ⟨?_, fun _ h => absurd h List.not_mem_nil⟩⟩
      · exact prep_emb f X g k 1 i1 w1 h1
      · exact prep_emb f X g k 0 i0 w0 h0
    · rcases Nat.le_one_iff_eq_zero_or_eq_one.mp (Nat.le_of_lt_succ hy0) with h | h
      · refine ⟨_, List.mem_cons_of_mem _ List.mem_cons_self, ?_⟩
        refine (Rect.mem_set_unit (inb := i0)).2 fun a => ?_
        match a with
        | ⟨0, _⟩ => exact ⟨Nat.zero_le _, show (y 0).val < 0 + 1 by omega⟩
        | ⟨1, _⟩ => exact ⟨Nat.zero_le _, show (y 1).val < 0 + half by omega⟩
        | ⟨2, _⟩ => exact ⟨hin.2.1, hin.2.2⟩
      · refine ⟨_, List.mem_cons_self, ?_⟩
        refine (Rect.mem_set_unit (inb := i1)).2 fun a => ?_
        match a with
        | ⟨0, _⟩ => exact ⟨show 1 ≤ (y 0).val by omega, show (y 0).val < 1 + 1 by omega⟩
        | ⟨1, _⟩ => exact ⟨Nat.zero_le _, show (y 1).val < 0 + half by omega⟩
        | ⟨2, _⟩ => exact ⟨hin.2.1, hin.2.2⟩
  · rw [View.read_writes_apply_of_forall_not_mem, hA]
    · unfold prepB
      by_cases h : (y 1).val < half ∧ (y 2).val < 128 * k
      · rw [if_pos h, if_pos ⟨h.1, by omega⟩]
      · rw [if_neg h, if_neg (by omega)]
    · refine List.forall_mem_cons.2 ⟨?_, List.forall_mem_cons.2 ⟨?_, fun _ h => absurd h List.not_mem_nil⟩⟩
      · intro hm
        have hm := (Rect.mem_set_unit (inb := i1)).1 hm
        have m1 : (y 1).val < 0 + half := (hm 1).2
        exact hin ⟨by omega, (hm 2).1, (hm 2).2⟩
      · intro hm
        have hm := (Rect.mem_set_unit (inb := i0)).1 hm
        have m1 : (y 1).val < 0 + half := (hm 1).2
        exact hin ⟨by omega, (hm 2).1, (hm 2).2⟩

/-- The pairs of neighbouring scale words of a block of 128 rows, at an index. -/
theorem pairs_apply {n half : ℕ} (rows : IVec (⟨2, ![128, n]⟩ : Shape) 16) (ht : (⟨2, ![128, n]⟩ : Shape).Transposes [1, 0] ⟨2, ![n, 128]⟩)
    (hb : (⟨2, ![n, 128]⟩ : Shape).Bitcasts 16 ⟨2, ![half, 128]⟩ 32) (hn : n = 2 * half) (r : Fin half) (c : Fin 128) :
    bitcast ⟨2, ![half, 128]⟩ 32 (transpose ⟨2, ![n, 128]⟩ [1, 0] rows ht) hb (ix2 r c)
      = rows (ix2 c ⟨2 * r.val + 1, by omega⟩) ++ rows (ix2 c ⟨2 * r.val, by omega⟩) := by
  rw [bitcast_16_32]
  have hx : ∀ p hp hq, transpose ⟨2, ![n, 128]⟩ [1, 0] rows ht (hb.srcIdx (ix2 r c) p hp) = rows (ix2 c ⟨p, hq⟩) :=
    fun p hp hq => congrArg rows (funext fun a => match a with | ⟨0, _⟩ => rfl | ⟨1, _⟩ => rfl)
  exact congrArg₂ (· ++ ·) (hx _ _ _) (hx _ _ _)

/-- Both fields of a loaded block's pairs are the words of the array the block was loaded from. -/
theorem pair_words {N n half : ℕ} {κ : Kind} (v : View sig κ .vmem (⟨2, ![N, n]⟩ : Shape) .i16) (X : v.ty.Contents (Elt Ideal)) (k : ℕ)
    {o : Fin 2 → ℕ} (ho : o = ![128 * k, 0]) (inb : ∀ a, o a + (![128, n] : Fin 2 → ℕ) a ≤ (![N, n] : Fin 2 → ℕ) a)
    (ht : (⟨2, ![128, n]⟩ : Shape).Transposes [1, 0] ⟨2, ![n, 128]⟩)
    (hb : (⟨2, ![n, 128]⟩ : Shape).Bitcasts 16 ⟨2, ![half, 128]⟩ 32) (hn : n = 2 * half) (r : Fin half) (c : Fin 128) :
    bitcast ⟨2, ![half, 128]⟩ 32 (transpose ⟨2, ![n, 128]⟩ [1, 0] (ld2 v X o 128 n inb) ht) hb (ix2 r c)
      = at2 (v.read (Elt Ideal) X) (128 * k + c.val) (2 * r.val + 1) ++ at2 (v.read (Elt Ideal) X) (128 * k + c.val) (2 * r.val) := by
  refine (pairs_apply (ld2 v X o 128 n inb) ht hb hn r c).trans ?_
  subst ho
  refine congrArg₂ (· ++ ·) ?_ ?_
  · refine (readAt2 (α := BitVec 16) rfl v X _ inb c _).trans ?_
    show at2 (v.read (Elt Ideal) X) (128 * k + c.val) (0 + (2 * r.val + 1)) = _
    rw [Nat.zero_add]
  · refine (readAt2 (α := BitVec 16) rfl v X _ inb c _).trans ?_
    show at2 (v.read (Elt Ideal) X) (128 * k + c.val) (0 + 2 * r.val) = _
    rw [Nat.zero_add]

/-- A leading axis of length one dropped. -/
theorem shapeCast_lead {a b : ℕ} (w : (⟨2, ![a, b]⟩ : Shape).Idx → EReal) (hc : (⟨2, ![a, b]⟩ : Shape).ShapeCasts ⟨3, ![1, a, b]⟩)
    (r : Fin a) (c : Fin b) : shapeCast ⟨3, ![1, a, b]⟩ w hc (ix3 0 r c) = w (ix2 r c) := by
  have h := Shape.reshapeEquiv_cons_one (n := 2) (d := ![a, b]) hc.symm (ix2 r c)
  have h2 := Shape.reshapeEquiv_reshapeEquiv hc hc.symm (ix2 r c)
  rw [h, Shape.reshapeEquiv_self] at h2
  refine congrArg w (Eq.trans (congrArg _ (funext fun x => ?_)) h2)
  match x with
  | ⟨0, _⟩ => rfl
  | ⟨1, _⟩ => rfl
  | ⟨2, _⟩ => rfl

/-- A stored block of one field (`g` the part, rounded or remainder), at an index. -/
theorem prep_piece {N n half : ℕ} {κ : Kind} (v : View sig κ .vmem (⟨2, ![N, n]⟩ : Shape) .i16) (X : v.ty.Contents (Elt Ideal)) (k : ℕ)
    (gV : IVec (⟨2, ![half, 128]⟩ : Shape) 32 → FVec Ideal ⟨2, ![half, 128]⟩ .f32) (g : BitVec 32 → EReal) (hg : ∀ b i, gV b i = g (b i))
    {o : Fin 2 → ℕ} (inb : ∀ a, o a + (![128, n] : Fin 2 → ℕ) a ≤ (![N, n] : Fin 2 → ℕ) a)
    (ht : (⟨2, ![128, n]⟩ : Shape).Transposes [1, 0] ⟨2, ![n, 128]⟩)
    (hb : (⟨2, ![n, 128]⟩ : Shape).Bitcasts 16 ⟨2, ![half, 128]⟩ 32) (hc : (⟨2, ![half, 128]⟩ : Shape).ShapeCasts ⟨3, ![1, half, 128]⟩)
    (ho : o = ![128 * k, 0]) (hn : n = 2 * half) (r : Fin half) (c : Fin 128) :
    shapeCast ⟨3, ![1, half, 128]⟩ (gV (bitcast ⟨2, ![half, 128]⟩ 32 (transpose ⟨2, ![n, 128]⟩ [1, 0] (ld2 v X o 128 n inb) ht) hb)) hc (ix3 0 r c)
      = g (pairBits (v.read (Elt Ideal) X) 1 r.val (128 * k + c.val)) := by
  have e := hg (bitcast ⟨2, ![half, 128]⟩ 32 (transpose ⟨2, ![n, 128]⟩ [1, 0] (ld2 v X o 128 n inb) ht) hb) (ix2 r c)
  rw [pair_words v X k ho inb ht hb hn r c] at e
  refine Eq.trans ?_ e
  rw [shapeCast_lead]

theorem prep_piece_low {N n half : ℕ} {κ : Kind} (v : View sig κ .vmem (⟨2, ![N, n]⟩ : Shape) .i16) (X : v.ty.Contents (Elt Ideal)) (k : ℕ)
    (gV : IVec (⟨2, ![half, 128]⟩ : Shape) 32 → FVec Ideal ⟨2, ![half, 128]⟩ .f32) (g : BitVec 32 → EReal) (hg : ∀ b i, gV b i = g (b i))
    {o : Fin 2 → ℕ} (inb : ∀ a, o a + (![128, n] : Fin 2 → ℕ) a ≤ (![N, n] : Fin 2 → ℕ) a)
    (ht : (⟨2, ![128, n]⟩ : Shape).Transposes [1, 0] ⟨2, ![n, 128]⟩)
    (hb : (⟨2, ![n, 128]⟩ : Shape).Bitcasts 16 ⟨2, ![half, 128]⟩ 32) (hc : (⟨2, ![half, 128]⟩ : Shape).ShapeCasts ⟨3, ![1, half, 128]⟩)
    (ho : o = ![128 * k, 0]) (hn : n = 2 * half) (r : Fin half) (c : Fin 128) :
    shapeCast ⟨3, ![1, half, 128]⟩ (gV (shli (bitcast ⟨2, ![half, 128]⟩ 32 (transpose ⟨2, ![n, 128]⟩ [1, 0] (ld2 v X o 128 n inb) ht) hb)
        (broadcast ⟨2, ![half, 128]⟩ 16#32))) hc (ix3 0 r c)
      = g (pairBits (v.read (Elt Ideal) X) 0 r.val (128 * k + c.val)) :=
  (prep_piece v X k (fun b => gV (shli b (broadcast ⟨2, ![half, 128]⟩ 16#32))) (fun b => g (IntOp.shli .vector b 16#32))
    (fun b i => hg _ i) inb ht hb hc ho hn r c).trans rfl

end Cert.KernelIdeal.Hand
-- ==== Proof.KernelIdeal.ValPrep.lean ====
/- The three scale loops of the program `KernelIdeal` with what they compute: the decoded scales after any number of
   trips. -/
module

public import proofs.«01_k».proof.Proof.KernelIdeal.Kit
public import proofs.«01_k».proof.Proof.Gen.KernelIdeal.Loops
public import Idealize.ShloMosaic.Lib.Pipeline.Value
public import proofs.«01_k».proof.Proof.KernelIdeal.Prep

@[expose] public section

set_option maxRecDepth 8192
set_option maxHeartbeats 4000000

noncomputable section

namespace Cert.KernelIdeal.Hand.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option warn.classDefReducibility false

variable (𝒱 : Variants) (c : Dev nD) (bd : Option 𝒱.V) (E : Set ℕ) (arg0 : Memref sig .tc .vmem S16x7168 .bf16) (harg0 : arg0.IsWhole) (arg1 : Memref sig .tc .hbm S2304x3584 .i8) (harg1 : arg1.IsWhole) (arg2 : Memref sig .tc .hbm S2304x224 .i16) (harg2 : arg2.IsWhole) (arg3 : Memref sig .tc .hbm S2304x3584 .i8) (harg3 : arg3.IsWhole) (arg4 : Memref sig .tc .hbm S2304x224 .i16) (harg4 : arg4.IsWhole) (arg5 : Memref sig .tc .hbm S7168x1152 .i8) (harg5 : arg5.IsWhole) (arg6 : Memref sig .tc .hbm S7168x72 .i16) (harg6 : arg6.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole) (arg24 : DmaSems sig S6)

/-- A scale loop: before trip `i` its two scratch arrays hold the first `128 i` columns decoded. -/
@[sl_loop] def loop_t1 (X_arg11 : BufTy.Contents (Elt Ideal) arg11.view.ty) (G14 : BufTy.Contents (Elt Ideal) arg14.view.ty) (G15 : BufTy.Contents (Elt Ideal) arg15.view.ty) :
    LoopInvTy_k0_t1 (F := Ideal) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun i _ => iprop((arg11.view.loc (c : Thread nD τ) ↦[arg11.view.set]{fullShare} X_arg11) ∗ (∃ f, (arg14.view.loc (c : Thread nD τ) ↦[arg14.view.set]{fullShare} f) ∗ ⌜arg14.view.read (Elt Ideal) f = prepA 112 hiB (arg11.view.read (Elt Ideal) X_arg11) (arg14.view.read (Elt Ideal) G14) i⌝) ∗ (∃ f, (arg15.view.loc (c : Thread nD τ) ↦[arg15.view.set]{fullShare} f) ∗ ⌜arg15.view.read (Elt Ideal) f = prepA 112 loB (arg11.view.read (Elt Ideal) X_arg11) (arg15.view.read (Elt Ideal) G15) i⌝))
  step k acc := by
    have hk : k.val < 18 := Nat.lt_of_lt_of_le k.isLt k0_t1_abs.2.1
    unfold k0_t1_body
    iintro ⟨Harg11, ⟨%f_arg14, Harg14, %hf14⟩, ⟨%f_arg15, Harg15, %hf15⟩⟩
    sl_exec
    sl_step
    isplitl [Harg11]
    · iexact Harg11
    isplitl [Harg14]
    · iexists _
      isplitl [Harg14]
      · iexact Harg14
      ipureintro
      refine prep_step (half := 112) arg14.view f_arg14 hiB (arg11.view.read (Elt Ideal) X_arg11) (arg14.view.read (Elt Ideal) G14) k.val hf14 ?_ ?_ ?_ ?_
      · exact k0_off2_eq k
      · exact k0_off3_eq k
      · intro r c
        sl_unfold_words
        unfold_payloads
        dsimp only
        exact prep_piece_low arg11.view X_arg11 k.val hiV hiB hiV_apply _ _ _ _ (k0_off1_eq k) rfl r c
      · intro r c
        sl_unfold_words
        unfold_payloads
        dsimp only
        exact prep_piece arg11.view X_arg11 k.val hiV hiB hiV_apply _ _ _ _ (k0_off1_eq k) rfl r c
    · iexists _
      isplitl [Harg15]
      · iexact Harg15
      ipureintro
      refine prep_step (half := 112) arg15.view f_arg15 loB (arg11.view.read (Elt Ideal) X_arg11) (arg15.view.read (Elt Ideal) G15) k.val hf15 ?_ ?_ ?_ ?_
      · exact k0_off2_eq k
      · exact k0_off3_eq k
      · intro r c
        sl_unfold_words
        unfold_payloads
        dsimp only
        exact prep_piece_low arg11.view X_arg11 k.val loV loB loV_apply _ _ _ _ (k0_off1_eq k) rfl r c
      · intro r c
        sl_unfold_words
        unfold_payloads
        dsimp only
        exact prep_piece arg11.view X_arg11 k.val loV loB loV_apply _ _ _ _ (k0_off1_eq k) rfl r c

/-- A scale loop: before trip `i` its two scratch arrays hold the first `128 i` columns decoded. -/
@[sl_loop] def loop_t2 (X_arg12 : BufTy.Contents (Elt Ideal) arg12.view.ty) (G16 : BufTy.Contents (Elt Ideal) arg16.view.ty) (G17 : BufTy.Contents (Elt Ideal) arg17.view.ty) :
    LoopInvTy_k0_t2 (F := Ideal) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun i _ => iprop((arg12.view.loc (c : Thread nD τ) ↦[arg12.view.set]{fullShare} X_arg12) ∗ (∃ f, (arg16.view.loc (c : Thread nD τ) ↦[arg16.view.set]{fullShare} f) ∗ ⌜arg16.view.read (Elt Ideal) f = prepA 112 hiB (arg12.view.read (Elt Ideal) X_arg12) (arg16.view.read (Elt Ideal) G16) i⌝) ∗ (∃ f, (arg17.view.loc (c : Thread nD τ) ↦[arg17.view.set]{fullShare} f) ∗ ⌜arg17.view.read (Elt Ideal) f = prepA 112 loB (arg12.view.read (Elt Ideal) X_arg12) (arg17.view.read (Elt Ideal) G17) i⌝))
  step k acc := by
    have hk : k.val < 18 := Nat.lt_of_lt_of_le k.isLt k0_t2_abs.2.1
    unfold k0_t2_body
    iintro ⟨Harg12, ⟨%f_arg16, Harg16, %hf16⟩, ⟨%f_arg17, Harg17, %hf17⟩⟩
    sl_exec
    sl_step
    isplitl [Harg12]
    · iexact Harg12
    isplitl [Harg16]
    · iexists _
      isplitl [Harg16]
      · iexact Harg16
      ipureintro
      refine prep_step (half := 112) arg16.view f_arg16 hiB (arg12.view.read (Elt Ideal) X_arg12) (arg16.view.read (Elt Ideal) G16) k.val hf16 ?_ ?_ ?_ ?_
      · exact k0_off5_eq k
      · exact k0_off6_eq k
      · intro r c
        sl_unfold_words
        unfold_payloads
        dsimp only
        exact prep_piece_low arg12.view X_arg12 k.val hiV hiB hiV_apply _ _ _ _ (k0_off4_eq k) rfl r c
      · intro r c
        sl_unfold_words
        unfold_payloads
        dsimp only
        exact prep_piece arg12.view X_arg12 k.val hiV hiB hiV_apply _ _ _ _ (k0_off4_eq k) rfl r c
    · iexists _
      isplitl [Harg17]
      · iexact Harg17
      ipureintro
      refine prep_step (half := 112) arg17.view f_arg17 loB (arg12.view.read (Elt Ideal) X_arg12) (arg17.view.read (Elt Ideal) G17) k.val hf17 ?_ ?_ ?_ ?_
      · exact k0_off5_eq k
      · exact k0_off6_eq k
      · intro r c
        sl_unfold_words
        unfold_payloads
        dsimp only
        exact prep_piece_low arg12.view X_arg12 k.val loV loB loV_apply _ _ _ _ (k0_off4_eq k) rfl r c
      · intro r c
        sl_unfold_words
        unfold_payloads
        dsimp only
        exact prep_piece arg12.view X_arg12 k.val loV loB loV_apply _ _ _ _ (k0_off4_eq k) rfl r c

/-- A scale loop: before trip `i` its two scratch arrays hold the first `128 i` columns decoded. -/
@[sl_loop] def loop_t4 (v119 : FVec Ideal S16x256 .bf16) (X_arg13 : BufTy.Contents (Elt Ideal) arg13.view.ty) (G18 : BufTy.Contents (Elt Ideal) arg18.view.ty) (G19 : BufTy.Contents (Elt Ideal) arg19.view.ty) :
    LoopInvTy_k0_t4 (F := Ideal) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun i _ => iprop((arg13.view.loc (c : Thread nD τ) ↦[arg13.view.set]{fullShare} X_arg13) ∗ (∃ f, (arg18.view.loc (c : Thread nD τ) ↦[arg18.view.set]{fullShare} f) ∗ ⌜arg18.view.read (Elt Ideal) f = prepA 36 hiB (arg13.view.read (Elt Ideal) X_arg13) (arg18.view.read (Elt Ideal) G18) i⌝) ∗ (∃ f, (arg19.view.loc (c : Thread nD τ) ↦[arg19.view.set]{fullShare} f) ∗ ⌜arg19.view.read (Elt Ideal) f = prepA 36 loB (arg13.view.read (Elt Ideal) X_arg13) (arg19.view.read (Elt Ideal) G19) i⌝))
  step k acc := by
    have hk : k.val < 56 := Nat.lt_of_lt_of_le k.isLt k0_t4_abs.2.1
    unfold k0_t4_body
    iintro ⟨Harg13, ⟨%f_arg18, Harg18, %hf18⟩, ⟨%f_arg19, Harg19, %hf19⟩⟩
    sl_exec
    sl_step
    isplitl [Harg13]
    · iexact Harg13
    isplitl [Harg18]
    · iexists _
      isplitl [Harg18]
      · iexact Harg18
      ipureintro
      refine prep_step (half := 36) arg18.view f_arg18 hiB (arg13.view.read (Elt Ideal) X_arg13) (arg18.view.read (Elt Ideal) G18) k.val hf18 ?_ ?_ ?_ ?_
      · exact k0_off36_eq k
      · exact k0_off37_eq k
      · intro r c
        sl_unfold_words
        unfold_payloads
        dsimp only
        exact prep_piece_low arg13.view X_arg13 k.val hiV hiB hiV_apply _ _ _ _ (k0_off35_eq k) rfl r c
      · intro r c
        sl_unfold_words
        unfold_payloads
        dsimp only
        exact prep_piece arg13.view X_arg13 k.val hiV hiB hiV_apply _ _ _ _ (k0_off35_eq k) rfl r c
    · iexists _
      isplitl [Harg19]
      · iexact Harg19
      ipureintro
      refine prep_step (half := 36) arg19.view f_arg19 loB (arg13.view.read (Elt Ideal) X_arg13) (arg19.view.read (Elt Ideal) G19) k.val hf19 ?_ ?_ ?_ ?_
      · exact k0_off36_eq k
      · exact k0_off37_eq k
      · intro r c
        sl_unfold_words
        unfold_payloads
        dsimp only
        exact prep_piece_low arg13.view X_arg13 k.val loV loB loV_apply _ _ _ _ (k0_off35_eq k) rfl r c
      · intro r c
        sl_unfold_words
        unfold_payloads
        dsimp only
        exact prep_piece arg13.view X_arg13 k.val loV loB loV_apply _ _ _ _ (k0_off35_eq k) rfl r c

end Cert.KernelIdeal.Hand.Named
-- ==== Proof.KernelIdeal.Iv.lean ====
/- Trip numbers times strides, as the indices the program computes, and a block whose left operand is taken as
   loaded. -/
module

public import proofs.«01_k».proof.Proof.KernelIdeal.Kit
public import proofs.«01_k».proof.Proof.Gen.KernelIdeal.Loops
public import Idealize.ShloMosaic.Lib.Pipeline.Value
public import proofs.«01_k».proof.Proof.KernelIdeal.Tile

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A trip number times a stride, plus a constant, as the index the program computes. -/
theorem iv_256 (k : ℕ) (hk : k < 64) : BitVec.toNat (Scalar.indexCast (Scalar.muli (Scf.iv 0#32 1#32 k) 256#32)) = 256 * k :=
  (by decide +kernel : ∀ k : Fin 64, BitVec.toNat (Scalar.indexCast (Scalar.muli (Scf.iv 0#32 1#32 k.val) 256#32)) = 256 * k.val) ⟨k, hk⟩
theorem iv_128 (k : ℕ) (hk : k < 64) : BitVec.toNat (Scalar.indexCast (Scalar.muli (Scf.iv 0#32 1#32 k) 128#32)) = 128 * k :=
  (by decide +kernel : ∀ k : Fin 64, BitVec.toNat (Scalar.indexCast (Scalar.muli (Scf.iv 0#32 1#32 k.val) 128#32)) = 128 * k.val) ⟨k, hk⟩
theorem iv_4_0 (k : ℕ) (hk : k < 64) : BitVec.toNat (Scalar.indexCast (Scalar.addi (Scalar.muli (Scf.iv 0#32 1#32 k) 4#32) 0#32)) = 4 * k + 0 :=
  (by decide +kernel : ∀ k : Fin 64, BitVec.toNat (Scalar.indexCast (Scalar.addi (Scalar.muli (Scf.iv 0#32 1#32 k.val) 4#32) 0#32)) = 4 * k.val + 0) ⟨k, hk⟩
theorem iv_4_1 (k : ℕ) (hk : k < 64) : BitVec.toNat (Scalar.indexCast (Scalar.addi (Scalar.muli (Scf.iv 0#32 1#32 k) 4#32) 1#32)) = 4 * k + 1 :=
  (by decide +kernel : ∀ k : Fin 64, BitVec.toNat (Scalar.indexCast (Scalar.addi (Scalar.muli (Scf.iv 0#32 1#32 k.val) 4#32) 1#32)) = 4 * k.val + 1) ⟨k, hk⟩
theorem iv_4_2 (k : ℕ) (hk : k < 64) : BitVec.toNat (Scalar.indexCast (Scalar.addi (Scalar.muli (Scf.iv 0#32 1#32 k) 4#32) 2#32)) = 4 * k + 2 :=
  (by decide +kernel : ∀ k : Fin 64, BitVec.toNat (Scalar.indexCast (Scalar.addi (Scalar.muli (Scf.iv 0#32 1#32 k.val) 4#32) 2#32)) = 4 * k.val + 2) ⟨k, hk⟩
theorem iv_4_3 (k : ℕ) (hk : k < 64) : BitVec.toNat (Scalar.indexCast (Scalar.addi (Scalar.muli (Scf.iv 0#32 1#32 k) 4#32) 3#32)) = 4 * k + 3 :=
  (by decide +kernel : ∀ k : Fin 64, BitVec.toNat (Scalar.indexCast (Scalar.addi (Scalar.muli (Scf.iv 0#32 1#32 k.val) 4#32) 3#32)) = 4 * k.val + 3) ⟨k, hk⟩

/-- The block's payload with the left operand taken as loaded. -/
def tileP (x : FVec Ideal S16x256 .bf16) (acc : FVec Ideal S1x16x256 .f32) (q : IVec S256x128 8)
    (h0 l0 h1 l1 h2 l2 h3 l3 h4 l4 h5 l5 h6 l6 h7 l7 : FVec Ideal S1x1x256 .f32) : FVec Ideal S1x16x256 .f32 :=
  shapeCast S1x16x256 (addf (shapeCast S16x256 acc shapeCasts_S1x16x256_S16x256)
    (matmul dot_S16x256_S256x256_S16x256_1_0_0_1_n_n none x
      (weights (k0_pay28 (F := Ideal) q) h0 l0 h1 l1 h2 l2 h3 l3 h4 l4 h5 l5 h6 l6 h7 l7) (constant S16x256 .f32 0x00000000#32)))
    shapeCasts_S16x256_S1x16x256

theorem tileP_eq (x : FVec Ideal S16x256 .bf16) (acc : FVec Ideal S1x16x256 .f32) (q : IVec S256x128 8)
    (h0 l0 h1 l1 h2 l2 h3 l3 h4 l4 h5 l5 h6 l6 h7 l7 : FVec Ideal S1x1x256 .f32) :
    tileP x acc q h0 l0 h1 l1 h2 l2 h3 l3 h4 l4 h5 l5 h6 l6 h7 l7 = tile x acc q h0 l0 h1 l1 h2 l2 h3 l3 h4 l4 h5 l5 h6 l6 h7 l7 := by
  unfold tileP tile
  have e : shapeCast S16x256 x shapeCasts_S16x256_S16x256 = x :=
    funext fun i => congrArg x (by rw [Shape.reshapeEquiv_self])
  rw [e]

/-- The same store with the left operand taken as loaded. -/
theorem tile_piece_plain {NT KX N K2 GH : ℕ} {κ : Kind}
    (vx : View sig κ .vmem (⟨2, ![16, KX]⟩ : Shape) .bf16) (X : vx.ty.Contents (Elt Ideal))
    (vq : View sig κ .vmem (⟨2, ![N, K2]⟩ : Shape) .i8) (Q : vq.ty.Contents (Elt Ideal))
    (vh vl : View sig κ .vmem (⟨3, ![2, GH, N]⟩ : Shape) .f32) (H : vh.ty.Contents (Elt Ideal)) (L : vl.ty.Contents (Elt Ideal))
    (va : View sig κ .vmem (⟨3, ![NT, 16, 256]⟩ : Shape) .f32) (A : va.ty.Contents (Elt Ideal))
    (k : ℕ) {n : ℕ} {ox oq : Fin 2 → ℕ} {oa o0 o1 o2 o3 o4 o5 o6 o7 : Fin 3 → ℕ} {ix iq ia i0 i1 i2 i3 i4 i5 i6 i7}
    (ha : oa = ![n, 0, 0]) (hx : ox = ![0, 256 * k]) (hq : oq = ![256 * n, 128 * k])
    (h0 : o0 = ![0, 4 * k + 0, 256 * n]) (h1 : o1 = ![1, 4 * k + 0, 256 * n]) (h2 : o2 = ![0, 4 * k + 1, 256 * n])
    (h3 : o3 = ![1, 4 * k + 1, 256 * n]) (h4 : o4 = ![0, 4 * k + 2, 256 * n]) (h5 : o5 = ![1, 4 * k + 2, 256 * n])
    (h6 : o6 = ![0, 4 * k + 3, 256 * n]) (h7 : o7 = ![1, 4 * k + 3, 256 * n])
    (y : S1x16x256.Idx) :
    tileP (ld2 vx X ox 16 256 ix)
      (ld3 va A oa 1 16 256 ia)
      (ld2 vq Q oq 256 128 iq)
      (ld3 vh H o0 1 1 256 i0) (ld3 vl L o0 1 1 256 i0)
      (ld3 vh H o1 1 1 256 i1) (ld3 vl L o1 1 1 256 i1)
      (ld3 vh H o2 1 1 256 i2) (ld3 vl L o2 1 1 256 i2)
      (ld3 vh H o3 1 1 256 i3) (ld3 vl L o3 1 1 256 i3)
      (ld3 vh H o4 1 1 256 i4) (ld3 vl L o4 1 1 256 i4)
      (ld3 vh H o5 1 1 256 i5) (ld3 vl L o5 1 1 256 i5)
      (ld3 vh H o6 1 1 256 i6) (ld3 vl L o6 1 1 256 i6)
      (ld3 vh H o7 1 1 256 i7) (ld3 vl L o7 1 1 256 i7) y
      = stepA (vx.read (Elt Ideal) X) (vq.read (Elt Ideal) Q) (vh.read (Elt Ideal) H) (vl.read (Elt Ideal) L) k
          (va.read (Elt Ideal) A) ((Rect.unit (s := ⟨3, ![NT, 16, 256]⟩) oa ![1, 16, 256] ia).emb y) :=
  (congrFun (tileP_eq _ _ _ _ _ _ _ _ _ _ _ _ _ _ _ _ _ _ _) y).trans
    (tile_piece vx X vq Q vh vl H L va A k ha hx hq h0 h1 h2 h3 h4 h5 h6 h7 y)

end Cert.KernelIdeal.Hand
-- ==== Proof.KernelIdeal.ValProdA.lean ====
/- The first product loop of the program `KernelIdeal` with what it computes: the accumulators after any number of
   trips. -/
module

public import proofs.«01_k».proof.Proof.KernelIdeal.Kit
public import proofs.«01_k».proof.Proof.Gen.KernelIdeal.Loops
public import Idealize.ShloMosaic.Lib.Pipeline.Value
public import proofs.«01_k».proof.Proof.KernelIdeal.Iv

@[expose] public section

set_option maxRecDepth 8192
set_option maxHeartbeats 4000000

noncomputable section

namespace Cert.KernelIdeal.Hand.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option warn.classDefReducibility false

variable (𝒱 : Variants) (c : Dev nD) (bd : Option 𝒱.V) (E : Set ℕ) (arg0 : Memref sig .tc .vmem S16x7168 .bf16) (harg0 : arg0.IsWhole) (arg1 : Memref sig .tc .hbm S2304x3584 .i8) (harg1 : arg1.IsWhole) (arg2 : Memref sig .tc .hbm S2304x224 .i16) (harg2 : arg2.IsWhole) (arg3 : Memref sig .tc .hbm S2304x3584 .i8) (harg3 : arg3.IsWhole) (arg4 : Memref sig .tc .hbm S2304x224 .i16) (harg4 : arg4.IsWhole) (arg5 : Memref sig .tc .hbm S7168x1152 .i8) (harg5 : arg5.IsWhole) (arg6 : Memref sig .tc .hbm S7168x72 .i16) (harg6 : arg6.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole) (arg24 : DmaSems sig S6)

/-- A product loop: before trip `i` the accumulators hold what `i` trips add. -/
@[sl_loop] def loop_t3 (X_arg0 : BufTy.Contents (Elt Ideal) arg0.view.ty) (X_arg8 : BufTy.Contents (Elt Ideal) arg8.view.ty) (X_arg9 : BufTy.Contents (Elt Ideal) arg9.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (G20 : BufTy.Contents (Elt Ideal) arg20.view.ty) (G21 : BufTy.Contents (Elt Ideal) arg21.view.ty) :
    LoopInvTy_k0_t3 (F := Ideal) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 where
  inv := fun i _ => iprop((arg0.view.loc (c : Thread nD τ) ↦[arg0.view.set]{fullShare} X_arg0) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg20.view.loc (c : Thread nD τ) ↦[arg20.view.set]{fullShare} f) ∗ ⌜arg20.view.read (Elt Ideal) f = accA (arg0.view.read (Elt Ideal) X_arg0) (arg8.view.read (Elt Ideal) X_arg8) (arg14.view.read (Elt Ideal) X_arg14) (arg15.view.read (Elt Ideal) X_arg15) (arg20.view.read (Elt Ideal) G20) i⌝) ∗ (∃ f, (arg21.view.loc (c : Thread nD τ) ↦[arg21.view.set]{fullShare} f) ∗ ⌜arg21.view.read (Elt Ideal) f = accA (arg0.view.read (Elt Ideal) X_arg0) (arg9.view.read (Elt Ideal) X_arg9) (arg16.view.read (Elt Ideal) X_arg16) (arg17.view.read (Elt Ideal) X_arg17) (arg21.view.read (Elt Ideal) G21) i⌝))
  step k acc := by
    have hk : k.val < 28 := Nat.lt_of_lt_of_le k.isLt k0_t3_abs.2.1
    unfold k0_t3_body
    iintro ⟨Harg0, Harg8, Harg9, Harg14, Harg15, Harg16, Harg17, ⟨%f_arg20, Harg20, %hf20⟩, ⟨%f_arg21, Harg21, %hf21⟩⟩
    sl_exec
    sl_step
    isplitl [Harg0]
    · iexact Harg0
    isplitl [Harg8]
    · iexact Harg8
    isplitl [Harg9]
    · iexact Harg9
    isplitl [Harg14]
    · iexact Harg14
    isplitl [Harg15]
    · iexact Harg15
    isplitl [Harg16]
    · iexact Harg16
    isplitl [Harg17]
    · iexact Harg17
    isplitl [Harg20]
    · iexists _
      isplitl [Harg20]
      · iexact Harg20
      ipureintro
      refine funext fun y => ?_
      refine View.read_writes_apply_of_pieces _ _ (stepA (arg0.view.read (Elt Ideal) X_arg0) (arg8.view.read (Elt Ideal) X_arg8) (arg14.view.read (Elt Ideal) X_arg14) (arg15.view.read (Elt Ideal) X_arg15) k.val (arg20.view.read (Elt Ideal) f_arg20)) _ ?_ y ?_ |>.trans (by rw [hf20]; rfl)
      on_goal 2 => exact View.cover_of_tiled (s := S9x16x256) _ S1x16x256.size (by sl_kernel_rfl) y
      sl_unfold_words
      unfold_payloads
      dsimp only
      repeat' refine List.forall_mem_cons.2 ⟨?_, ?_⟩
      on_goal -1 => exact fun _ h => absurd h List.not_mem_nil
      all_goals
        intro x
        refine tile_piece arg0.view X_arg0 arg8.view X_arg8 arg14.view arg15.view X_arg14 X_arg15 arg20.view f_arg20 k.val rfl ?_ ?_ ?_ ?_ ?_ ?_ ?_ ?_ ?_ ?_ x
        all_goals simp only [iv_256 k.val (by omega), iv_128 k.val (by omega), iv_4_0 k.val (by omega), iv_4_1 k.val (by omega), iv_4_2 k.val (by omega), iv_4_3 k.val (by omega), Nat.reduceMul, Nat.add_zero]
    · iexists _
      isplitl [Harg21]
      · iexact Harg21
      ipureintro
      refine funext fun y => ?_
      refine View.read_writes_apply_of_pieces _ _ (stepA (arg0.view.read (Elt Ideal) X_arg0) (arg9.view.read (Elt Ideal) X_arg9) (arg16.view.read (Elt Ideal) X_arg16) (arg17.view.read (Elt Ideal) X_arg17) k.val (arg21.view.read (Elt Ideal) f_arg21)) _ ?_ y ?_ |>.trans (by rw [hf21]; rfl)
      on_goal 2 => exact View.cover_of_tiled (s := S9x16x256) _ S1x16x256.size (by sl_kernel_rfl) y
      sl_unfold_words
      unfold_payloads
      dsimp only
      repeat' refine List.forall_mem_cons.2 ⟨?_, ?_⟩
      on_goal -1 => exact fun _ h => absurd h List.not_mem_nil
      all_goals
        intro x
        refine tile_piece arg0.view X_arg0 arg9.view X_arg9 arg16.view arg17.view X_arg16 X_arg17 arg21.view f_arg21 k.val rfl ?_ ?_ ?_ ?_ ?_ ?_ ?_ ?_ ?_ ?_ x
        all_goals simp only [iv_256 k.val (by omega), iv_128 k.val (by omega), iv_4_0 k.val (by omega), iv_4_1 k.val (by omega), iv_4_2 k.val (by omega), iv_4_3 k.val (by omega), Nat.reduceMul, Nat.add_zero]

end Cert.KernelIdeal.Hand.Named
-- ==== Proof.KernelIdeal.ValProdB.lean ====
/- The second product loop of the program `KernelIdeal` with what it computes: the accumulators after any number of
   trips. -/
module

public import proofs.«01_k».proof.Proof.KernelIdeal.Kit
public import proofs.«01_k».proof.Proof.Gen.KernelIdeal.Loops
public import Idealize.ShloMosaic.Lib.Pipeline.Value
public import proofs.«01_k».proof.Proof.KernelIdeal.Iv

@[expose] public section

set_option maxRecDepth 8192
set_option maxHeartbeats 4000000

noncomputable section

namespace Cert.KernelIdeal.Hand.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option warn.classDefReducibility false

variable (𝒱 : Variants) (c : Dev nD) (bd : Option 𝒱.V) (E : Set ℕ) (arg0 : Memref sig .tc .vmem S16x7168 .bf16) (harg0 : arg0.IsWhole) (arg1 : Memref sig .tc .hbm S2304x3584 .i8) (harg1 : arg1.IsWhole) (arg2 : Memref sig .tc .hbm S2304x224 .i16) (harg2 : arg2.IsWhole) (arg3 : Memref sig .tc .hbm S2304x3584 .i8) (harg3 : arg3.IsWhole) (arg4 : Memref sig .tc .hbm S2304x224 .i16) (harg4 : arg4.IsWhole) (arg5 : Memref sig .tc .hbm S7168x1152 .i8) (harg5 : arg5.IsWhole) (arg6 : Memref sig .tc .hbm S7168x72 .i16) (harg6 : arg6.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole) (arg24 : DmaSems sig S6)

/-- A product loop: before trip `i` the accumulators hold what `i` trips add. -/
@[sl_loop] def loop_t5 (v119 : FVec Ideal S16x256 .bf16) (X_arg10 : BufTy.Contents (Elt Ideal) arg10.view.ty) (X_arg18 : BufTy.Contents (Elt Ideal) arg18.view.ty) (X_arg19 : BufTy.Contents (Elt Ideal) arg19.view.ty) (X_arg23 : BufTy.Contents (Elt Ideal) arg23.view.ty) (G22 : BufTy.Contents (Elt Ideal) arg22.view.ty) :
    LoopInvTy_k0_t5 (F := Ideal) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v119 where
  inv := fun i _ => iprop((arg10.view.loc (c : Thread nD τ) ↦[arg10.view.set]{fullShare} X_arg10) ∗ (arg18.view.loc (c : Thread nD τ) ↦[arg18.view.set]{fullShare} X_arg18) ∗ (arg19.view.loc (c : Thread nD τ) ↦[arg19.view.set]{fullShare} X_arg19) ∗ (arg23.view.loc (c : Thread nD τ) ↦[arg23.view.set]{fullShare} X_arg23) ∗ (∃ f, (arg22.view.loc (c : Thread nD τ) ↦[arg22.view.set]{fullShare} f) ∗ ⌜arg22.view.read (Elt Ideal) f = accA (arg23.view.read (Elt Ideal) X_arg23) (arg10.view.read (Elt Ideal) X_arg10) (arg18.view.read (Elt Ideal) X_arg18) (arg19.view.read (Elt Ideal) X_arg19) (arg22.view.read (Elt Ideal) G22) i⌝))
  step k acc := by
    have hk : k.val < 9 := Nat.lt_of_lt_of_le k.isLt k0_t5_abs.2.1
    unfold k0_t5_body
    iintro ⟨Harg10, Harg18, Harg19, Harg23, ⟨%f_arg22, Harg22, %hf22⟩⟩
    sl_exec
    sl_step
    isplitl [Harg10]
    · iexact Harg10
    isplitl [Harg18]
    · iexact Harg18
    isplitl [Harg19]
    · iexact Harg19
    isplitl [Harg23]
    · iexact Harg23
    iexists _
    isplitl [Harg22]
    · iexact Harg22
    ipureintro
    refine funext fun y => ?_
    refine View.read_writes_apply_of_pieces _ _ (stepA (arg23.view.read (Elt Ideal) X_arg23) (arg10.view.read (Elt Ideal) X_arg10) (arg18.view.read (Elt Ideal) X_arg18) (arg19.view.read (Elt Ideal) X_arg19) k.val (arg22.view.read (Elt Ideal) f_arg22)) _ ?_ y ?_ |>.trans (by rw [hf22]; rfl)
    on_goal 2 => exact View.cover_of_tiled (s := S28x16x256) _ S1x16x256.size (by sl_kernel_rfl) y
    sl_unfold_words
    unfold_payloads
    dsimp only
    repeat' refine List.forall_mem_cons.2 ⟨?_, ?_⟩
    on_goal -1 => exact fun _ h => absurd h List.not_mem_nil
    all_goals
      intro x
      refine tile_piece_plain arg23.view X_arg23 arg10.view X_arg10 arg18.view arg19.view X_arg18 X_arg19 arg22.view f_arg22 k.val rfl ?_ ?_ ?_ ?_ ?_ ?_ ?_ ?_ ?_ ?_ x
      all_goals simp only [iv_256 k.val (by omega), iv_128 k.val (by omega), iv_4_0 k.val (by omega), iv_4_1 k.val (by omega), iv_4_2 k.val (by omega), iv_4_3 k.val (by omega), Nat.reduceMul, Nat.add_zero]

end Cert.KernelIdeal.Hand.Named
-- ==== Proof.KernelIdeal.Lin.lean ====
/- The accumulators after all their trips, as one sum over the contraction. -/
module

public import proofs.«01_k».proof.Proof.KernelIdeal.Prep

@[expose] public section

noncomputable section

namespace Cert.KernelIdeal.Hand

open Cert.KernelIdeal.Gen
open Idealize.ShloMosaic Idealize.ShloMosaic.TcCoe

/-- The weight of output column `o` at position `j` of the contraction, from the packed codes and the scale words. -/
def wtS {N K2 G : ℕ} (q : (⟨2, ![N, K2]⟩ : Shape).Idx → BitVec 8) (s : (⟨2, ![N, G]⟩ : Shape).Idx → BitVec 16) (o j : ℕ) : EReal :=
  code (at2 q o (j / 2)) (j % 2) * hiB (pairBits s (j / 32 % 2) (j / 64) o)
    + code (at2 q o (j / 2)) (j % 2) * loB (pairBits s (j / 32 % 2) (j / 64) o)

/-- Row `t` of the left operand against column `o` of the decoded weights, over the first `n` positions. -/
def lin {T KX N K2 G : ℕ} (x : (⟨2, ![T, KX]⟩ : Shape).Idx → EReal) (q : (⟨2, ![N, K2]⟩ : Shape).Idx → BitVec 8)
    (s : (⟨2, ![N, G]⟩ : Shape).Idx → BitVec 16) (n t o : ℕ) : EReal :=
  ∑ j ∈ Finset.range n, at2 x t j * wtS q s o j

/-- A decoded scale array at natural coordinates inside the part decoded. -/
theorem at3_prepA {N G RH half n : ℕ} (f : BitVec 32 → EReal) (s : (⟨2, ![N, G]⟩ : Shape).Idx → BitVec 16)
    (g : (⟨3, ![2, RH, N]⟩ : Shape).Idx → EReal) (p r o : ℕ) (hp : p < 2) (hr : r < half) (hRH : half ≤ RH) (ho : o < N)
    (hn : N ≤ 128 * n) : at3 (prepA half f s g n) p r o = f (pairBits s p r o) := by
  rw [prepA_eq]
  unfold at3
  rw [dif_pos ⟨hp, by omega, ho⟩]
  unfold prepB
  exact if_pos ⟨hr, show o < 128 * n by omega⟩

/-- The accumulator of a product loop run to its end, from zero, on scales fully decoded. -/
theorem accA_lin {NT KX N K2 GH G half n : ℕ} (x : (⟨2, ![16, KX]⟩ : Shape).Idx → EReal) (q : (⟨2, ![N, K2]⟩ : Shape).Idx → BitVec 8)
    (s : (⟨2, ![N, G]⟩ : Shape).Idx → BitVec 16) (g1 g2 : (⟨3, ![2, GH, N]⟩ : Shape).Idx → EReal)
    (g : (⟨3, ![NT, 16, 256]⟩ : Shape).Idx → EReal) (hg : ∀ y, g y = 0) (hGH : half ≤ GH) (hn : N ≤ 128 * n) (hNT : 256 * NT ≤ N) :
    ∀ (K : ℕ), 256 * K ≤ 64 * half → ∀ y, accA x q (prepA half hiB s g1 n) (prepA half loB s g2 n) g K y
      = lin x q s (256 * K) (y 1).val (256 * (y 0).val + (y 2).val)
  | 0, _, y => (hg y).trans (by simp [lin])
  | K + 1, hK, y => by
    show stepA x q _ _ K (accA x q _ _ g K) y = _
    have h0 : (y 0).val < NT := (y 0).isLt
    have h2 : (y 2).val < 256 := (y 2).isLt
    unfold stepA lin
    rw [accA_lin x q s g1 g2 g hg hGH hn hNT K (by omega) y, show 256 * (K + 1) = 256 * K + 256 by omega, Finset.sum_range_add,
      Finset.sum_range (n := 256)]
    unfold lin
    refine congrArg₂ (· + ·) rfl (Finset.sum_congr rfl fun i _ => ?_)
    have hi := i.isLt
    unfold wt wtS
    rw [at3_prepA _ _ _ _ _ _ (Nat.mod_lt _ (by decide)) (by omega) hGH (by omega) hn,
      at3_prepA _ _ _ _ _ _ (Nat.mod_lt _ (by decide)) (by omega) hGH (by omega) hn]

/-- The first layers' input as a matrix. -/
def xin (x : (⟨3, ![16, 1, 7168]⟩ : Shape).Idx → EReal) : (⟨2, ![16, 7168]⟩ : Shape).Idx → EReal := fun y => x (ix3 (y 0) 0 (y 1))

/-- The gated activation. -/
def act (x : (⟨2, ![16, 7168]⟩ : Shape).Idx → EReal) (qg : (⟨2, ![2304, 3584]⟩ : Shape).Idx → BitVec 8) (sg : (⟨2, ![2304, 224]⟩ : Shape).Idx → BitVec 16) (qu : (⟨2, ![2304, 3584]⟩ : Shape).Idx → BitVec 8)
    (su : (⟨2, ![2304, 224]⟩ : Shape).Idx → BitVec 16) (y : (⟨2, ![16, 2304]⟩ : Shape).Idx) : EReal :=
  lin x qg sg 7168 (y 0).val (y 1).val
    * Ideal.logistic (lin x qg sg 7168 (y 0).val (y 1).val) * lin x qu su 7168 (y 0).val (y 1).val

/-- The result. -/
def mlp (x : (⟨2, ![16, 7168]⟩ : Shape).Idx → EReal) (qg : (⟨2, ![2304, 3584]⟩ : Shape).Idx → BitVec 8) (sg : (⟨2, ![2304, 224]⟩ : Shape).Idx → BitVec 16) (qu : (⟨2, ![2304, 3584]⟩ : Shape).Idx → BitVec 8)
    (su : (⟨2, ![2304, 224]⟩ : Shape).Idx → BitVec 16) (qd : (⟨2, ![7168, 1152]⟩ : Shape).Idx → BitVec 8) (sd : (⟨2, ![7168, 72]⟩ : Shape).Idx → BitVec 16) (y : (⟨2, ![16, 7168]⟩ : Shape).Idx) : EReal :=
  lin (act x qg sg qu su) qd sd 2304 (y 0).val (y 1).val

end Cert.KernelIdeal.Hand
-- ==== Proof.KernelIdeal.Back.lean ====
/- Reading back what the body's last stores leave: each accumulator tile lands in its own 256 columns. And the
   whole chain of accumulators as one closed form. -/
module

public import proofs.«01_k».proof.Proof.KernelIdeal.Lin
public import Idealize.ShloMosaic.Lib.VecWindow

@[expose] public section

set_option maxRecDepth 16384

noncomputable section

namespace Cert.KernelIdeal.Hand

open Cert.KernelIdeal.Gen
open Idealize.ShloMosaic Idealize.ShloMosaic.TcCoe

/-- The zero word is zero. -/
theorem zero_word : Ideal.ofBits .f32 0x00000000#32 = 0 := Ideal.ofBits_zero_f32

/-- Tiles of 256 columns laid side by side. -/
def flat {NT M : ℕ} (f : (⟨3, ![NT, 16, 256]⟩ : Shape).Idx → EReal) (y : (⟨2, ![16, M]⟩ : Shape).Idx) : EReal :=
  at3 f ((y 1).val / 256) (y 0).val ((y 1).val % 256)

/-- The gated product of two tiled arrays, laid flat. -/
def gated {NT M : ℕ} (g u : (⟨3, ![NT, 16, 256]⟩ : Shape).Idx → EReal) (y : (⟨2, ![16, M]⟩ : Shape).Idx) : EReal :=
  flat g y * Ideal.logistic (flat g y) * flat u y

/-- An output store's payload. -/
def outP (v : FVec Ideal S1x16x256 .f32) : FVec Ideal S16x256 .bf16 :=
  truncf .bf16 (shapeCast S16x256 v shapeCasts_S1x16x256_S16x256) bitsLt_bf16_f32

/-- A hidden store's payload. -/
def actP (g u : FVec Ideal S1x16x256 .f32) : FVec Ideal S16x256 .bf16 :=
  shapeCast S16x256 (truncf .bf16 (mulf (mulf (shapeCast S16x256 g shapeCasts_S1x16x256_S16x256)
    (logistic (shapeCast S16x256 g shapeCasts_S1x16x256_S16x256))) (shapeCast S16x256 u shapeCasts_S1x16x256_S16x256)) bitsLt_bf16_f32)
    shapeCasts_S16x256_S16x256

theorem outP_apply (v : FVec Ideal S1x16x256 .f32) (i : Fin 16) (j : Fin 256) : outP v (ix2 i j) = v (ix3 0 i j) := by
  unfold outP
  pointwise

theorem actP_apply (g u : FVec Ideal S1x16x256 .f32) (i : Fin 16) (j : Fin 256) :
    actP g u (ix2 i j) = g (ix3 0 i j) * Ideal.logistic (g (ix3 0 i j)) * u (ix3 0 i j) := by
  unfold actP
  pointwise

/-- Where tile `n` sits in the flat array. -/
theorem flat_emb {NT M n : ℕ} (f : (⟨3, ![NT, 16, 256]⟩ : Shape).Idx → EReal)
    (inb : ∀ a, (![0, 256 * n] : Fin 2 → ℕ) a + (![16, 256] : Fin 2 → ℕ) a ≤ (![16, M] : Fin 2 → ℕ) a) (i : Fin 16) (j : Fin 256) :
    flat f ((Rect.unit (s := ⟨2, ![16, M]⟩) ![0, 256 * n] ![16, 256] inb).emb (ix2 i j)) = at3 f n i.val j.val := by
  show at3 f ((256 * n + 1 * j.val) / 256) (0 + 1 * i.val) ((256 * n + 1 * j.val) % 256) = _
  have hj := j.isLt
  congr 1 <;> omega

/-- A tile loaded from a tiled buffer, at an index. -/
theorem ld_tile {NT n : ℕ} {κ : Kind} {sp : Space} (v : View sig κ sp (⟨3, ![NT, 16, 256]⟩ : Shape) .f32) (X : v.ty.Contents (Elt Ideal))
    (inb) (i : Fin 16) (j : Fin 256) :
    ld3 v X ![n, 0, 0] 1 16 256 inb (ix3 0 i j) = at3 (v.read (Elt Ideal) X : _ → EReal) n i.val j.val := by
  refine (readAt3 (α := EReal) rfl v X ![n, 0, 0] inb 0 i j).trans ?_
  show at3 (v.read (Elt Ideal) X : _ → EReal) (n + 0) (0 + i.val) (0 + j.val) = _
  rw [Nat.add_zero, Nat.zero_add, Nat.zero_add]

/-- An output store's payload, at an index of its block. -/
theorem out_piece {NT M : ℕ} {κ : Kind} {sp : Space} (v : View sig κ sp (⟨3, ![NT, 16, 256]⟩ : Shape) .f32) (X : v.ty.Contents (Elt Ideal))
    {n : ℕ} {o : Fin 3 → ℕ} {p : Fin 2 → ℕ} {i3} {i2} (ho : o = ![n, 0, 0]) (hp : p = ![0, 256 * n]) (x : S16x256.Idx) :
    outP (ld3 v X o 1 16 256 i3) x
      = flat (v.read (Elt Ideal) X) ((Rect.unit (s := ⟨2, ![16, M]⟩) p ![16, 256] i2).emb x) := by
  subst ho hp
  rw [eq_ix2 x]
  generalize x 0 = i, x 1 = j
  exact (outP_apply _ i j).trans ((ld_tile v X i3 i j).trans (flat_emb _ i2 i j).symm)

/-- A hidden store's payload, at an index of its block. -/
theorem act_piece {NT M : ℕ} {κ : Kind} {sp : Space} (v w : View sig κ sp (⟨3, ![NT, 16, 256]⟩ : Shape) .f32)
    (X : v.ty.Contents (Elt Ideal)) (Y : w.ty.Contents (Elt Ideal))
    {n : ℕ} {o o' : Fin 3 → ℕ} {p : Fin 2 → ℕ} {i3 i3'} {i2} (ho : o = ![n, 0, 0]) (ho' : o' = ![n, 0, 0]) (hp : p = ![0, 256 * n]) (x : S16x256.Idx) :
    actP (ld3 v X o 1 16 256 i3) (ld3 w Y o' 1 16 256 i3') x
      = gated (v.read (Elt Ideal) X) (w.read (Elt Ideal) Y) ((Rect.unit (s := ⟨2, ![16, M]⟩) p ![16, 256] i2).emb x) := by
  subst ho ho' hp
  rw [eq_ix2 x]
  generalize x 0 = i, x 1 = j
  refine (actP_apply _ _ i j).trans ?_
  unfold gated
  rw [flat_emb _ i2 i j, flat_emb _ i2 i j, ld_tile v X i3 i j, ld_tile w Y i3' i j]

/-- A flat accumulator of a product loop that starts at zero is the sum over the whole contraction. -/
theorem flat_lin {NT KX K2 GH G half n K : ℕ} (x : (⟨2, ![16, KX]⟩ : Shape).Idx → EReal) (q : (⟨2, ![256 * NT, K2]⟩ : Shape).Idx → BitVec 8)
    (s : (⟨2, ![256 * NT, G]⟩ : Shape).Idx → BitVec 16) (g1 g2 : (⟨3, ![2, GH, 256 * NT]⟩ : Shape).Idx → EReal)
    (g : (⟨3, ![NT, 16, 256]⟩ : Shape).Idx → EReal) (hg : ∀ y, g y = 0) (hGH : half ≤ GH) (hn : 256 * NT ≤ 128 * n)
    (hK : 256 * K ≤ 64 * half) (y : (⟨2, ![16, 256 * NT]⟩ : Shape).Idx) :
    flat (accA x q (prepA half hiB s g1 n) (prepA half loB s g2 n) g K) y = lin x q s (256 * K) (y 0).val (y 1).val := by
  have h0 : (y 0).val < 16 := (y 0).isLt
  have h1 : (y 1).val < 256 * NT := (y 1).isLt
  unfold flat
  refine (dif_pos (⟨by omega, h0, by omega⟩ : (y 1).val / 256 < NT ∧ (y 0).val < 16 ∧ (y 1).val % 256 < 256)).trans ?_
  refine (accA_lin x q s g1 g2 g hg hGH hn le_rfl K hK _).trans ?_
  refine congrArg (lin x q s (256 * K) (y 0).val) ?_
  show 256 * ((y 1).val / 256) + (y 1).val % 256 = _
  omega

/-- The body's result from the facts its loops leave. -/
theorem body_value (x : S16x7168.Idx → EReal) (gq uq : S2304x3584.Idx → BitVec 8) (gs us : S2304x224.Idx → BitVec 16)
    (dq : S7168x1152.Idx → BitVec 8) (ds : S7168x72.Idx → BitVec 16)
    {a14 a15 a16 a17 g14 g15 g16 g17 : S2x112x2304.Idx → EReal} {a18 a19 g18 g19 : S2x40x7168.Idx → EReal}
    {a20 a21 z20 z21 : S9x16x256.Idx → EReal} {a22 z22 : S28x16x256.Idx → EReal} {h : S16x2304.Idx → EReal}
    (h14 : a14 = prepA 112 hiB gs g14 18) (h15 : a15 = prepA 112 loB gs g15 18)
    (h16 : a16 = prepA 112 hiB us g16 18) (h17 : a17 = prepA 112 loB us g17 18)
    (h18 : a18 = prepA 36 hiB ds g18 56) (h19 : a19 = prepA 36 loB ds g19 56)
    (hz20 : ∀ y, z20 y = 0) (hz21 : ∀ y, z21 y = 0) (hz22 : ∀ y, z22 y = 0)
    (h20 : a20 = accA x gq a14 a15 z20 28) (h21 : a21 = accA x uq a16 a17 z21 28)
    (hh : ∀ y, h y = gated a20 a21 y) (h22 : a22 = accA h dq a18 a19 z22 9) (y : S16x7168.Idx) :
    flat a22 y = mlp x gq gs uq us dq ds y := by
  have e : h = act x gq gs uq us := funext fun y => by
    rw [hh y, h20, h21, h14, h15, h16, h17]
    unfold gated act
    rw [flat_lin (NT := 9) x gq gs g14 g15 z20 hz20 le_rfl (by decide) (by decide) y,
      flat_lin (NT := 9) x uq us g16 g17 z21 hz21 le_rfl (by decide) (by decide) y]
  rw [h22, e, h18, h19]
  exact flat_lin (NT := 28) (act x gq gs uq us) dq ds g18 g19 z22 hz22 (by decide) (by decide) (by decide) y

end Cert.KernelIdeal.Hand
-- ==== Proof.KernelIdeal.ValRun.lean ====
/- The whole kernel body of the program `KernelIdeal`, run once on the extended reals, with what it leaves in the
   output named. -/
module

public import proofs.«01_k».proof.Proof.KernelIdeal.ValPrep
public import proofs.«01_k».proof.Proof.KernelIdeal.ValProdA
public import proofs.«01_k».proof.Proof.KernelIdeal.ValProdB
public import proofs.«01_k».proof.Proof.KernelIdeal.Back

@[expose] public section

-- membership in a rectangle of production extents (`View.cover_of_tiled`): the elaborator's structural look
-- recurses once per coordinate of the long axes
set_option maxRecDepth 16384

noncomputable section

namespace Cert.KernelIdeal.Hand.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- (the run's proof term is large: checking it walks past the default budget)
set_option maxHeartbeats 1124000 in
/-- The body's triple: from the inputs' blocks, the operands in memory and scratch at anything, the body runs to the
    continuation holding all of them again, the output's block at the gated product of the whole layer. -/
theorem valueRun0 (c : Dev nD) (arg0 : Memref sig .tc .vmem S16x7168 .bf16) (harg0 : arg0.IsWhole) (arg7 : Memref sig .tc .vmem S16x7168 .bf16) (harg7 : arg7.IsWhole) (arg8 : Memref sig .tc .vmem S2304x3584 .i8) (harg8 : arg8.IsWhole) (arg9 : Memref sig .tc .vmem S2304x3584 .i8) (harg9 : arg9.IsWhole) (arg10 : Memref sig .tc .vmem S7168x1152 .i8) (harg10 : arg10.IsWhole) (arg11 : Memref sig .tc .vmem S2304x224 .i16) (harg11 : arg11.IsWhole) (arg12 : Memref sig .tc .vmem S2304x224 .i16) (harg12 : arg12.IsWhole) (arg13 : Memref sig .tc .vmem S7168x72 .i16) (harg13 : arg13.IsWhole) (arg14 : Memref sig .tc .vmem S2x112x2304 .f32) (harg14 : arg14.IsWhole) (arg15 : Memref sig .tc .vmem S2x112x2304 .f32) (harg15 : arg15.IsWhole) (arg16 : Memref sig .tc .vmem S2x112x2304 .f32) (harg16 : arg16.IsWhole) (arg17 : Memref sig .tc .vmem S2x112x2304 .f32) (harg17 : arg17.IsWhole) (arg18 : Memref sig .tc .vmem S2x40x7168 .f32) (harg18 : arg18.IsWhole) (arg19 : Memref sig .tc .vmem S2x40x7168 .f32) (harg19 : arg19.IsWhole) (arg20 : Memref sig .tc .vmem S9x16x256 .f32) (harg20 : arg20.IsWhole) (arg21 : Memref sig .tc .vmem S9x16x256 .f32) (harg21 : arg21.IsWhole) (arg22 : Memref sig .tc .vmem S28x16x256 .f32) (harg22 : arg22.IsWhole) (arg23 : Memref sig .tc .vmem S16x2304 .bf16) (harg23 : arg23.IsWhole)
    (x0 : Vec Ideal S16x7168 .bf16) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) :
      ∀ (W : Waits sig Unit) (K : PUnit → sProp (MT nD τ sig Unit (Elt Ideal) ℕ (Pipeline.UD sig nD τ) ℕ)),
        iprop(owns (c : Thread nD τ) arg0 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg0 fullShare x0 ∗ owns (c : Thread nD τ) arg7 fullShare (mlp x0 (hbM0_0.view.read (Elt Ideal) fh0) (hbM0_1.view.read (Elt Ideal) fh1) (hbM0_2.view.read (Elt Ideal) fh2) (hbM0_3.view.read (Elt Ideal) fh3) (hbM0_4.view.read (Elt Ideal) fh4) (hbM0_5.view.read (Elt Ideal) fh5)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := Ideal)) Variants.none c none) Set.univ (cc0_q4_mlp arg0 harg0 (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch16) K := by
    intro W K
    simp only [cc0_q4_mlp_eq_skeleton]; unfold cc0_q4_mlp_skel
    simp only [k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hq0, Hq1, Hq2, Hq3, Hq4, Hq5, Hh0, Hh1, Hh2, Hh3, Hh4, Hh5, HW, Hk⟩
    obtain rfl := harg0.eq_unread hf0
    sl_exec
    sl_step
    rw [View.read_writes_whole] at hL2 hL4 hL7 hL9 hL23 hL25
    rw [hf0, View.read_writes_whole] at hL18 hL20
    rw [View.read_writes_whole arg10.view] at hL31
    have hz20 : ∀ y, (View.read (Elt Ideal) arg20.view (arg20.view.writes (Elt Ideal) arg20.view.junk valueRun0.sl.HS12_1) : S9x16x256.Idx → EReal) y = 0 := fun y =>
      (congrFun (View.read_writes_full arg20.view _ _ _ _) y).trans zero_word
    have hz21 : ∀ y, (View.read (Elt Ideal) arg21.view (arg21.view.writes (Elt Ideal) arg21.view.junk valueRun0.sl.HS13_1) : S9x16x256.Idx → EReal) y = 0 := fun y =>
      (congrFun (View.read_writes_full arg21.view _ _ _ _) y).trans zero_word
    have hz22 : ∀ y, (View.read (Elt Ideal) arg22.view (arg22.view.writes (Elt Ideal) arg22.view.junk valueRun0.sl.HS14_1) : S28x16x256.Idx → EReal) y = 0 := fun y =>
      (congrFun (View.read_writes_full arg22.view _ _ _ _) y).trans zero_word
    have hact : ∀ y, View.read (Elt Ideal) arg23.view (arg23.view.writes (Elt Ideal) arg23.view.junk (valueRun0.sl.HS15_9 c arg20 arg21 fL4 fL5)) y
        = gated (arg20.view.read (Elt Ideal) fL4) (arg21.view.read (Elt Ideal) fL5) y := fun y => by
      refine View.read_writes_apply_of_pieces (Val := Elt Ideal) (e := .bf16) arg23.view _ (gated (M := 2304) (arg20.view.read (Elt Ideal) fL4) (arg21.view.read (Elt Ideal) fL5)) _ ?_ y ?_
      on_goal 2 => exact View.cover_of_tiled (s := S16x2304) _ S16x256.size (by sl_kernel_rfl) y
      sl_unfold_words
      unfold_payloads
      dsimp only
      repeat' refine List.forall_mem_cons.2 ⟨?_, ?_⟩
      on_goal -1 => exact fun _ h => absurd h List.not_mem_nil
      all_goals
        intro x
        exact act_piece (i2 := by decide) arg20.view arg21.view fL4 fL5 rfl rfl rfl x
    have hout : ∀ y, flat (arg22.view.read (Elt Ideal) fL8) y = (mlp x0 (hbM0_0.view.read (Elt Ideal) fh0) (hbM0_1.view.read (Elt Ideal) fh1) (hbM0_2.view.read (Elt Ideal) fh2) (hbM0_3.view.read (Elt Ideal) fh3) (hbM0_4.view.read (Elt Ideal) fh4) (hbM0_5.view.read (Elt Ideal) fh5)) y :=
      body_value x0 _ _ _ _ _ _ hL2 hL4 hL7 hL9 hL23 hL25 hz20 hz21 hz22 hL18 hL20 hact hL31
    iapply Hk
    isplitl [H0]
    · iexists _; isplitr; · ipureintro; exact harg0.read_unread _
      iexact H0
    isplitl [H1]
    · iexists _; isplitr; swap; · iexact H1
      ipureintro
      refine funext fun y => Eq.trans ?_ (hout y)
      refine View.read_writes_apply_of_pieces (Val := Elt Ideal) (e := .bf16) arg7.view _ (flat (M := 7168) (arg22.view.read (Elt Ideal) fL8)) _ ?_ y ?_
      on_goal 2 => exact View.cover_of_tiled (s := S16x7168) _ S16x256.size (by sl_kernel_rfl) y
      sl_unfold_words
      unfold_payloads
      dsimp only
      repeat' refine List.forall_mem_cons.2 ⟨?_, ?_⟩
      on_goal -1 => exact fun _ h => absurd h List.not_mem_nil
      all_goals
        intro x
        exact out_piece (i2 := by decide) arg22.view fL8 rfl rfl x
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Hand.Named

end
-- ==== Proof.KernelIdeal.ValFrame.lean ====
/- The pipelined run of the program `KernelIdeal` on the extended reals with the output named, and what its result
   array ends at. -/
module

public import proofs.«01_k».proof.Proof.KernelIdeal.ValRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the body leaves in the output's block. -/
def out (c : Dev nD) (t : Fin cfg0.N) : Vec Ideal S16x7168 .bf16 :=
  mlp (iblk m c 0 t) (hbM0_0.view.read (Elt Ideal) (V m c main_arg1)) (hbM0_1.view.read (Elt Ideal) (V m c main_arg2))
    (hbM0_2.view.read (Elt Ideal) (V m c main_arg3)) (hbM0_3.view.read (Elt Ideal) (V m c main_arg4))
    (hbM0_4.view.read (Elt Ideal) (V m c main_arg5)) (hbM0_5.view.read (Elt Ideal) (V m c main_arg6))

/-- The proof data of the one pipeline on core `c`: as in the frame's, the output's block named (`out`). -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => out m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem after0_1 (c : Dev nD) (t : Fin cfg0.N) : (dats m 0 c).after 1 t = out m c t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp (MT nD τ sig Unit (Elt Ideal) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp (MT nD τ sig Unit (Elt Ideal) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point: the run applies, the invariant handing it its scratch, semaphores and operands and taking them back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0, after0_1]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12, HS13, HS14, HS15⟩, Hg, ⟨Hq0, Hq1, Hq2, Hq3, Hq4, Hq5⟩, ⟨Hh0, Hh1, Hh2, Hh3, Hh4, Hh5⟩⟩, ⟨%W, -, HW⟩, ⟨%d0, H0⟩, ⟨%d1, H1⟩⟩
  iapply ((valueRun0 c _ _ _ _ _ _ _ _ _ _ _ _ _ _ _ _ _ _ _ _ _ _ _ _ _ _ _ _ _ _ _ _ _ _ _ _ (iblk m c 0 t) (V m c main_arg1) (V m c main_arg2) (V m c main_arg3) (V m c main_arg4) (V m c main_arg5) (V m c main_arg6)) W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, HS0, HS1, HS2, HS3, HS4, HS5, HS6, HS7, HS8, HS9, HS10, HS11, HS12, HS13, HS14, HS15, Hq0, Hq1, Hq2, Hq3, Hq4, Hq5, Hh0, Hh1, Hh2, Hh3, Hh4, Hh5, ⟨%W', HW'⟩⟩
  isplitl [HS0 HS1 HS2 HS3 HS4 HS5 HS6 HS7 HS8 HS9 HS10 HS11 HS12 HS13 HS14 HS15 Hg Hq0 Hq1 Hq2 Hq3 Hq4 Hq5 Hh0 Hh1 Hh2 Hh3 Hh4 Hh5]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [Hg]
    · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0]; · iexact Hh0
    isplitl [Hh1]; · iexact Hh1
    isplitl [Hh2]; · iexact Hh2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  iexact H1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- the launch's implicit arguments are found by unifying its conclusion with this one
set_option backward.isDefEq.respectTransparency.types false in
set_option maxHeartbeats 800000 in
/-- The launch: every window's array at what its write-backs leave, every other buffer at what the later lines leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

end Cert.KernelIdeal.Hand.Named

end
-- ==== Proof.KernelIdeal.ValEnd.lean ====
/- What the program `KernelIdeal` returns on the extended reals: the pipeline has one point, whose block is the whole
   array, so the result array ends at what the body leaves; the host's two reshapes only move the batch axis. -/
module

public import proofs.«01_k».proof.Proof.KernelIdeal.ValFrame
public import Idealize.ShloMosaic.Lib.Pipeline.Value
public import Idealize.ShloMosaic.Lib.StableHlo.Run
public import Idealize.ShloMosaic.Lib.Pointwise

@[expose] public section

noncomputable section

namespace Cert.KernelIdeal.Hand.Named

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The six arrays the body moves itself are read whole, and no host operation has written them. -/
def result (c : Dev nD) : S16x7168.Idx → EReal :=
  mlp (xin (m ((c : Thread nD τ).loc main_arg0))) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The region finds its input reshaped. -/
theorem V_main_v0 (c : Dev nD) :
    V m c main_v0 = (shapeCast S16x7168 (m ((c : Thread nD τ).loc main_arg0)) shapeCasts_S16x1x7168_S16x7168 : FVec Ideal S16x7168 .bf16) := by
  show StableHlo.after (List.flatten [hostOps0]) _ (Proc.devRef .tc main_v0) = _
  simp only [hostOps0, List.flatten_cons, List.flatten_nil, List.append_nil]
  after_results
  rfl

/-- Dropping the batch axis. -/
theorem drop_axis (x : FVec Ideal S16x1x7168 .bf16) :
    (shapeCast S16x7168 x shapeCasts_S16x1x7168_S16x7168 : FVec Ideal S16x7168 .bf16) = xin x := by
  funext y
  obtain ⟨a, b, rfl⟩ : ∃ a b, y = ix2 a b := ⟨y 0, y 1, eq_ix2 y⟩
  show _ = x (ix3 a 0 b)
  pointwise

/-- Putting it back. -/
theorem add_axis (x : FVec Ideal S16x7168 .bf16) (a : Fin 16) (b : Fin 7168) :
    (shapeCast S16x1x7168 x shapeCasts_S16x7168_S16x1x7168 : FVec Ideal S16x1x7168 .bf16) (ix3 a 0 b) = x (ix2 a b) := by
  pointwise

/-- Window 0's block is the whole of its array. -/
theorem iblk_eq (c : Dev nD) (t : Fin cfg0.N) : (iblk m c 0 t : FVec Ideal S16x7168 .bf16) = xin (m ((c : Thread nD τ).loc main_arg0)) := by
  have hz : (fun a => win0_0.index t a * main_v0.ty.shape.size a) = fun _ => 0 := funext fun a =>
    (by decide +kernel : ∀ (t : Fin grid0.N) a, win0_0.index t a * main_v0.ty.shape.size a = 0) t a
  rw [← drop_axis, ← V_main_v0]
  exact Memref.read_access_unit_zero (Elt Ideal) main_v0 hz (fun a => by rw [congrFun hz a]; simp) (V m c main_v0)

theorem out_eq (c : Dev nD) (t : Fin cfg0.N) : out m c t = result m c := by
  unfold out result
  rw [iblk_eq, V_main_arg1, V_main_arg2, V_main_arg3, V_main_arg4, V_main_arg5, V_main_arg6]
  rfl

theorem flushed_eq (c : Dev nD) (t : Fin cfg0.N) (_ : (cfg0.win 1).flush t = true) :
    (dats m 0 c).flushed 1 t = ((cfg0.win 1).blk t).view.read (Elt Ideal) (result m c) := by
  show (cfg0.win 1).cut (grid0.coords t) ((dats m 0 c).after 1 t) = _
  rw [after0_1, out_eq]
  have hz : (fun a => win0_1.index t a * main_v1.ty.shape.size a) = fun _ => 0 := funext fun a =>
    (by decide +kernel : ∀ (t : Fin grid0.N) a, win0_1.index t a * main_v1.ty.shape.size a = 0) t a
  exact (Memref.read_access_unit_zero (Elt Ideal) main_v1 hz (fun a => by rw [congrFun hz a]; simp) (result m c)).symm

/-- The one point. -/
abbrev pt : Fin cfg0.N := ⟨0, by decide⟩

/-- The result array after the launch. -/
theorem final_o (c : Dev nD) : (dats m 0 c).arrAt 1 cfg0.N = result m c :=
  (dats m 0 c).arrAt_eq_of_cover 1 (result m c) (flushed_eq m c) fun i =>
    ⟨pt, flush0_1 pt, by
      show i ∈ ((View.whole main_v1).slice (win0_1.rect pt)).set
      rw [View.set_slice_whole, Rect.mem_set_unit]
      intro a
      have h0 : (i 0 : Nat) < 16 := (i 0).isLt
      have h1 : (i 1 : Nat) < 7168 := (i 1).isLt
      match a with
      | ⟨0, _⟩ => show win0_1.index pt 0 * win0_1.size 0 ≤ (i 0 : Nat) ∧ (i 0 : Nat) < win0_1.index pt 0 * win0_1.size 0 + win0_1.xsize (grid0.coords pt) 0
                  rw [show win0_1.index pt 0 * win0_1.size 0 = 0 from by decide +kernel, show win0_1.xsize (grid0.coords pt) 0 = 16 from by decide +kernel]; omega
      | ⟨1, _⟩ => show win0_1.index pt 1 * win0_1.size 1 ≤ (i 1 : Nat) ∧ (i 1 : Nat) < win0_1.index pt 1 * win0_1.size 1 + win0_1.xsize (grid0.coords pt) 1
                  rw [show win0_1.index pt 1 * win0_1.size 1 = 0 from by decide +kernel, show win0_1.xsize (grid0.coords pt) 1 = 7168 from by decide +kernel]; omega⟩

/-- What the program returns. -/
def answer (c : Dev nD) : FVec Ideal S16x1x7168 .bf16 := shapeCast S16x1x7168 (result m c) shapeCasts_S16x7168_S16x1x7168

theorem W_main_v2 (c : Dev nD) : Pipeline.afterTail₀ cfgs (dats m) 0 (V0 m) [hostOps1] c main_v2 = answer m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_v1) = result m c :=
    (Pipeline.withArrays_arr (cfgs 0).spec (by exact (by decide : Function.Injective (Pipeline.arrRef spec0))) c (V0 m c) _ 1).trans (final_o m c)
  rw [h]
  rfl

/-- The run, read. -/
theorem run : θ_run defs (onTc (τ := τ) (main (F := Ideal))) ⟨m, fun _ => 0, ρ⟩ fun r => ∀ c : Dev nD,
      r.2.mem ((c : Thread nD τ).loc main_v2) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v2 (Pipeline.mem_restRefs_of main_v2 (by decide) (by decide))).trans (W_main_v2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand.Named

end
-- ==== Proof.KernelIdeal.Decode.lean ====
/- A scale word read two ways: as the kernel reads it from the upper half of a 32-bit word, and as the mathematics
   does, field by field. Both are the same real number, and the rounded part and remainder add up to it. -/
module

public import proofs.«01_k».proof.Proof.KernelIdeal.Lin
public import Mathlib.Data.Nat.Bitwise

@[expose] public section

set_option maxRecDepth 8192

noncomputable section

namespace Cert.KernelIdeal.Hand

open Cert.KernelIdeal.Gen
open Idealize.ShloMosaic Idealize.ShloMosaic.TcCoe

/-- The magnitude of a scale word, field by field. -/
def srefMag (w : BitVec 16) : EReal :=
  Scalar.select (IntOp.cmpi CmpIPredicate.eq (IntOp.andi (IntOp.shrsi ArithUnit.host (BitVec.setWidth 32 w) 10#32) 31#32) 0#32)
    (FloatOps.sitofp (F := Ideal) FTy.f32 (IntOp.andi (BitVec.setWidth 32 w) 1023#32) * Ideal.ofBits FTy.f32 864026624#32)
    (Ideal.ofBits FTy.f32
      (IntOp.ori
        (IntOp.shli ArithUnit.host (IntOp.addi (IntOp.andi (IntOp.shrsi ArithUnit.host (BitVec.setWidth 32 w) 10#32) 31#32) 112#32) 23#32)
        (IntOp.shli ArithUnit.host (IntOp.andi (BitVec.setWidth 32 w) 1023#32) 13#32)))

/-- A scale word's value, field by field. -/
def sref (w : BitVec 16) : EReal :=
  Scalar.select (IntOp.cmpi CmpIPredicate.eq (IntOp.shrsi ArithUnit.host (BitVec.setWidth 32 w) 15#32) 1#32) (-srefMag w) (srefMag w)

theorem nat_mask (x : ℕ) : x &&& 268427264 = (x / 8192 % 32768) * 8192 := by
  have h : (268427264 : ℕ) = (2 ^ 15 - 1) <<< 13 := by decide
  have h2 : (x / 8192 % 32768) * 8192 = ((x / 2 ^ 13) % 2 ^ 15) <<< 13 := by rw [Nat.shiftLeft_eq]; norm_num
  rw [h, h2]
  apply Nat.eq_of_testBit_eq
  intro i
  rw [Nat.testBit_and, Nat.testBit_shiftLeft, Nat.testBit_shiftLeft, Nat.testBit_mod_two_pow, Nat.testBit_two_pow_sub_one,
    Nat.testBit_div_two_pow]
  by_cases hi : 13 ≤ i
  · rw [show i - 13 + 13 = i by omega]
    simp [hi, Bool.and_comm]
  · simp [hi]

theorem shr_nat (w : BitVec 16) (k : ℕ) (hk : k < 32) :
    (IntOp.shrsi ArithUnit.host (BitVec.setWidth 32 w) (BitVec.ofNat 32 k)).toNat = w.toNat / 2 ^ k := by
  have hw := w.isLt
  have hkn : (BitVec.ofNat 32 k).toNat = k := by rw [BitVec.toNat_ofNat]; omega
  show (if (BitVec.ofNat 32 k).toNat < 32 then (BitVec.setWidth 32 w).sshiftRight' (BitVec.ofNat 32 k) else _).toNat = _
  rw [if_pos (by omega)]
  show ((BitVec.setWidth 32 w).sshiftRight (BitVec.ofNat 32 k).toNat).toNat = _
  rw [hkn, BitVec.sshiftRight_eq_of_msb_false, BitVec.toNat_ushiftRight, BitVec.toNat_setWidth, Nat.shiftRight_eq_div_pow,
    Nat.mod_eq_of_lt (by omega)]
  rw [BitVec.msb_eq_decide, BitVec.toNat_setWidth, Nat.mod_eq_of_lt (by omega)]
  exact decide_eq_false (by omega)

theorem exp_nat (w : BitVec 16) :
    (IntOp.andi (IntOp.shrsi ArithUnit.host (BitVec.setWidth 32 w) 10#32) 31#32).toNat = w.toNat / 1024 % 32 := by
  show ((IntOp.shrsi ArithUnit.host (BitVec.setWidth 32 w) 10#32) &&& 31#32).toNat = _
  rw [BitVec.toNat_and, show (10#32) = BitVec.ofNat 32 10 from rfl, shr_nat w 10 (by decide)]
  exact Nat.and_two_pow_sub_one_eq_mod _ 5

theorem man_nat (w : BitVec 16) : (IntOp.andi (BitVec.setWidth 32 w) 1023#32).toNat = w.toNat % 1024 := by
  have hw := w.isLt
  show ((BitVec.setWidth 32 w) &&& 1023#32).toNat = _
  rw [BitVec.toNat_and, BitVec.toNat_setWidth, Nat.mod_eq_of_lt (by omega)]
  exact Nat.and_two_pow_sub_one_eq_mod _ 10

theorem word_nat (w : BitVec 16) :
    (IntOp.ori
        (IntOp.shli ArithUnit.host (IntOp.addi (IntOp.andi (IntOp.shrsi ArithUnit.host (BitVec.setWidth 32 w) 10#32) 31#32) 112#32) 23#32)
        (IntOp.shli ArithUnit.host (IntOp.andi (BitVec.setWidth 32 w) 1023#32) 13#32)).toNat
      = (w.toNat / 1024 % 32 + 112) * 2 ^ 23 + (w.toNat % 1024) * 2 ^ 13 := by
  have he := exp_nat w
  have hm := man_nat w
  revert he hm
  generalize IntOp.andi (IntOp.shrsi ArithUnit.host (BitVec.setWidth 32 w) 10#32) 31#32 = e
  generalize IntOp.andi (BitVec.setWidth 32 w) 1023#32 = m
  intro he hm
  show (((e + 112#32) <<< (23#32)) ||| (m <<< (13#32))).toNat = _
  rw [BitVec.toNat_or, BitVec.shiftLeft_eq', BitVec.shiftLeft_eq', BitVec.toNat_shiftLeft, BitVec.toNat_shiftLeft, BitVec.toNat_add, he, hm]
  rw [show (112#32).toNat = 112 from rfl, show (23#32).toNat = 23 from rfl, show (13#32).toNat = 13 from rfl, Nat.shiftLeft_eq,
    Nat.shiftLeft_eq]
  have e1 : ((w.toNat / 1024 % 32 + 112) % 2 ^ 32 * 2 ^ 23) % 2 ^ 32 = 2 ^ 23 * (w.toNat / 1024 % 32 + 112) := by omega
  have e2 : (w.toNat % 1024 * 2 ^ 13) % 2 ^ 32 = w.toNat % 1024 * 2 ^ 13 := by
    have h1 : w.toNat % 1024 < 1024 := Nat.mod_lt _ (by decide)
    refine Nat.mod_eq_of_lt ?_
    generalize w.toNat % 1024 = z at h1
    omega
  rw [e1, e2, ← Nat.two_pow_add_eq_or_of_lt (by omega)]
  omega

theorem mag_nat (b : BitVec 32) (w : BitVec 16) (hb : b.toNat / 65536 = w.toNat) :
    (magB b).toNat = (w.toNat / 1024 % 32 + 112) * 2 ^ 23 + (w.toNat % 1024) * 2 ^ 13 := by
  have hlt := b.isLt
  show (((b >>> (3#32)) &&& 268427264#32) + 939524096#32).toNat = _
  rw [BitVec.toNat_add, BitVec.toNat_and, BitVec.ushiftRight_eq', BitVec.toNat_ushiftRight, Nat.shiftRight_eq_div_pow]
  rw [show (3#32).toNat = 3 from rfl, show (268427264#32).toNat = 268427264 from rfl,
    show (939524096#32).toNat = 939524096 from rfl, nat_mask]
  omega

/-- A finite word of the 32-bit format is a real number. -/
theorem ofBits_real (m : BitVec 32) (h : m.toNat / 2 ^ 23 % 256 < 255) : ∃ r : ℝ, Ideal.ofBits FTy.f32 m = (r : EReal) := by
  show ∃ r : ℝ, Ideal.ieee 8 23 m = (r : EReal)
  have hx : (m.extractLsb' 23 8).toNat = m.toNat / 2 ^ 23 % 256 := by
    rw [BitVec.extractLsb'_toNat, Nat.shiftRight_eq_div_pow]
  unfold Ideal.ieee
  simp only [hx]
  rw [if_neg (by omega)]
  split
  · exact ⟨_, rfl⟩
  · exact ⟨_, rfl⟩

/-- A positive normal word's value. -/
theorem ofBits_norm (m : BitVec 32) (E f : ℕ) (hm : m.toNat = E * 2 ^ 23 + f) (hE : 0 < E) (hE2 : E < 255) (hf : f < 2 ^ 23) :
    Ideal.ofBits FTy.f32 m = (((2 ^ 23 + f : ℕ) * (2 : ℝ) ^ ((E : ℤ) - 150) : ℝ) : EReal) := by
  show Ideal.ieee 8 23 m = _
  have hx : (m.extractLsb' 23 8).toNat = E := by
    rw [BitVec.extractLsb'_toNat, Nat.shiftRight_eq_div_pow]
    omega
  have hfr : (m.extractLsb' 0 23).toNat = f := by
    rw [BitVec.extractLsb'_toNat, Nat.shiftRight_eq_div_pow]
    omega
  have hs : (m.extractLsb' (8 + 23) 1 == 1#1) = false := by
    rw [beq_eq_false_iff_ne]
    intro h
    have h := congrArg BitVec.toNat h
    rw [BitVec.extractLsb'_toNat, Nat.shiftRight_eq_div_pow] at h
    have : (1#1).toNat = 1 := rfl
    omega
  unfold Ideal.ieee
  simp only [hx, hfr, hs]
  rw [if_neg (by omega), if_neg (by omega)]
  have e : ((E : ℤ) - (2 ^ (8 - 1) - 1) - ((23 : ℕ) : ℤ)) = (E : ℤ) - 150 := by
    have h7 : ((2 : ℤ) ^ (8 - 1)) = 128 := by norm_num
    omega
  refine congrArg (fun z : ℝ => (z : EReal)) ?_
  rw [e]
  simp

/-- The magnitude both ways. -/
def magR (w : BitVec 16) : ℝ :=
  if w.toNat / 1024 % 32 = 0 then (w.toNat % 1024 : ℕ) * (2 : ℝ) ^ (-24 : ℤ)
  else (2 ^ 23 + (w.toNat % 1024) * 2 ^ 13 : ℕ) * (2 : ℝ) ^ (((w.toNat / 1024 % 32 + 112 : ℕ) : ℤ) - 150)

theorem srefMag_eq (w : BitVec 16) : srefMag w = (magR w : EReal) := by
  unfold srefMag magR
  have hw := w.isLt
  have he := exp_nat w
  have hn := word_nat w
  have hc : IntOp.cmpi CmpIPredicate.eq (IntOp.andi (IntOp.shrsi ArithUnit.host (BitVec.setWidth 32 w) 10#32) 31#32) 0#32
      = if w.toNat / 1024 % 32 = 0 then 1 else 0 := by
    show BitVec.ofBool (_ == _) = _
    split
    · rename_i h
      rw [show IntOp.andi (IntOp.shrsi ArithUnit.host (BitVec.setWidth 32 w) 10#32) 31#32 = 0#32 from BitVec.eq_of_toNat_eq (by rw [he, h]; rfl)]
      rfl
    · rename_i h
      rw [beq_eq_false_iff_ne.2 (fun hh => h (by rw [← he, hh]; rfl))]
      rfl
  rw [hc]
  by_cases h : w.toNat / 1024 % 32 = 0
  · rw [if_pos h, if_pos h]
    show (if (1 : BitVec 1) = 1 then _ else _) = _
    rw [if_pos rfl, ofBits_norm (864026624#32) 103 0 rfl (by decide) (by decide) (by decide)]
    show ((((IntOp.andi (BitVec.setWidth 32 w) 1023#32).toInt : ℝ)) : EReal) * _ = _
    have hi : (IntOp.andi (BitVec.setWidth 32 w) 1023#32).toInt = ((w.toNat % 1024 : ℕ) : ℤ) := by
      rw [BitVec.toInt_eq_toNat_of_lt (by rw [man_nat]; omega), man_nat]
    rw [hi, ← EReal.coe_mul]
    congr 1
    rw [Int.cast_natCast]
    norm_num
  · rw [if_neg h, if_neg h]
    show (if (0 : BitVec 1) = 1 then _ else _) = _
    rw [if_neg (by decide), ofBits_norm _ _ _ hn (by omega) (by omega) (by omega)]

/-- The value both ways. -/
def valR (w : BitVec 16) : ℝ := if w.toNat / 32768 = 1 then -magR w else magR w

theorem sref_eq (w : BitVec 16) : sref w = (valR w : EReal) := by
  have hs := shr_nat w 15 (by decide)
  unfold sref valR
  rw [srefMag_eq]
  have hc : IntOp.cmpi CmpIPredicate.eq (IntOp.shrsi ArithUnit.host (BitVec.setWidth 32 w) 15#32) 1#32
      = if w.toNat / 32768 = 1 then 1 else 0 := by
    show BitVec.ofBool (_ == _) = _
    split
    · rename_i h
      rw [show IntOp.shrsi ArithUnit.host (BitVec.setWidth 32 w) 15#32 = 1#32 from BitVec.eq_of_toNat_eq (hs.trans h)]
      rfl
    · rename_i h
      rw [beq_eq_false_iff_ne.2 (fun hh => h (hs.symm.trans (by rw [hh]; rfl)))]
      rfl
  rw [hc]
  by_cases h : w.toNat / 32768 = 1
  · rw [if_pos h, if_pos h]
    show (if (1 : BitVec 1) = 1 then _ else _) = _
    rw [if_pos rfl, EReal.coe_neg]
  · rw [if_neg h, if_neg h]
    show (if (0 : BitVec 1) = 1 then _ else _) = _
    rw [if_neg (by decide)]

theorem fval_real (m b : BitVec 32) (x : ℝ) (hx : Ideal.ofBits FTy.f32 m = (x : EReal)) :
    fval m b = ((if b.toNat / 2 ^ 31 = 1 then -(min x (x + x - 2 ^ (-14 : ℤ))) else min x (x + x - 2 ^ (-14 : ℤ)) : ℝ) : EReal) := by
  have hlt := b.isLt
  unfold fval
  rw [hx, ofBits_norm (947912704#32) 113 0 rfl (by decide) (by decide) (by decide)]
  have hk : ((2 ^ 23 + 0 : ℕ) * (2 : ℝ) ^ (((113 : ℕ) : ℤ) - 150) : ℝ) = 2 ^ (-14 : ℤ) := by push_cast; norm_num
  rw [hk, ← EReal.coe_add, ← EReal.coe_sub, ← EReal.coe_strictMono.monotone.map_min]
  have hc : IntOp.cmpi CmpIPredicate.ne (IntOp.andi b 2147483648#32) 0#32 = if b.toNat / 2 ^ 31 = 1 then 1 else 0 := by
    have ha : (IntOp.andi b 2147483648#32).toNat = (b.toNat / 2 ^ 31 % 2) * 2 ^ 31 := by
      show (b &&& 2147483648#32).toNat = _
      rw [BitVec.toNat_and, show (2147483648#32).toNat = 2 ^ 31 from rfl, Nat.and_two_pow, Nat.testBit_eq_decide_div_mod_eq]
      have : b.toNat / 2 ^ 31 % 2 < 2 := Nat.mod_lt _ (by decide)
      congr 1
      rcases Nat.le_one_iff_eq_zero_or_eq_one.mp (Nat.le_of_lt_succ this) with h | h <;> rw [h] <;> rfl
    show BitVec.ofBool (_ != _) = _
    split
    · rename_i h
      rw [bne_iff_ne.2 (fun hh => by rw [hh] at ha; have : (0#32).toNat = 0 := rfl; omega)]
      rfl
    · rename_i h
      rw [show IntOp.andi b 2147483648#32 = 0#32 from BitVec.eq_of_toNat_eq (ha.trans (by show _ = 0; omega))]
      rfl
  rw [hc]
  by_cases h : b.toNat / 2 ^ 31 = 1
  · rw [if_pos h, if_pos h]
    show (if (1 : BitVec 1) = 1 then _ else _) = _
    rw [if_pos rfl, EReal.coe_neg, zero_sub]
  · rw [if_neg h, if_neg h]
    show (if (0 : BitVec 1) = 1 then _ else _) = _
    rw [if_neg (by decide)]

theorem min_mag (w : BitVec 16) :
    let x : ℝ := (2 ^ 23 + (w.toNat % 1024) * 2 ^ 13 : ℕ) * (2 : ℝ) ^ (((w.toNat / 1024 % 32 + 112 : ℕ) : ℤ) - 150)
    min x (x + x - 2 ^ (-14 : ℤ)) = magR w := by
  intro x
  unfold magR
  have hm : w.toNat % 1024 < 1024 := Nat.mod_lt _ (by decide)
  have hm' : ((w.toNat % 1024 : ℕ) : ℝ) < 1024 := by exact_mod_cast hm
  have hm0 : (0 : ℝ) ≤ ((w.toNat % 1024 : ℕ) : ℝ) := Nat.cast_nonneg _
  split
  · rename_i h
    have hx : x = (8388608 + ((w.toNat % 1024 : ℕ) : ℝ) * 8192) * (2 : ℝ) ^ (-38 : ℤ) := by
      show ((2 ^ 23 + (w.toNat % 1024) * 2 ^ 13 : ℕ) : ℝ) * (2 : ℝ) ^ (((w.toNat / 1024 % 32 + 112 : ℕ) : ℤ) - 150) = _
      rw [h]
      push_cast
      norm_num
    have e : x + x - 2 ^ (-14 : ℤ) = ((w.toNat % 1024 : ℕ) : ℝ) * (2 : ℝ) ^ (-24 : ℤ) := by
      rw [hx]
      norm_num
      ring
    rw [e, min_eq_right]
    rw [hx]
    norm_num
    linarith
  · rename_i h
    rw [min_eq_left]
    have h1 : (2 : ℝ) ^ (-37 : ℤ) ≤ (2 : ℝ) ^ (((w.toNat / 1024 % 32 + 112 : ℕ) : ℤ) - 150) :=
      zpow_le_zpow_right₀ (by norm_num) (by omega)
    have h2 : (8388608 : ℝ) ≤ ((2 ^ 23 + (w.toNat % 1024) * 2 ^ 13 : ℕ) : ℝ) := by
      push_cast
      nlinarith
    have h3 : (2 : ℝ) ^ (-14 : ℤ) ≤ x := by
      calc (2 : ℝ) ^ (-14 : ℤ) = 8388608 * (2 : ℝ) ^ (-37 : ℤ) := by norm_num
        _ ≤ x := mul_le_mul h2 h1 (by positivity) (by positivity)
    linarith

/-- The kernel's reading of a scale word in the upper half of a 32-bit word. -/
theorem fval_mag (b : BitVec 32) (w : BitVec 16) (hb : b.toNat / 65536 = w.toNat) : fval (magB b) b = (valR w : EReal) := by
  rw [fval_real _ b _ (ofBits_norm _ _ _ (mag_nat b w hb) (by omega) (by omega) (by omega)), min_mag]
  unfold valR
  have h : b.toNat / 2 ^ 31 = w.toNat / 32768 := by omega
  rw [h]

theorem hiB_real (b : BitVec 32) : ∃ h : ℝ, hiB b = (h : EReal) := by
  have hb := b.isLt
  have hm := mag_nat b (BitVec.ofNat 16 (b.toNat / 65536)) (by rw [BitVec.toNat_ofNat]; omega)
  obtain ⟨x, hx⟩ := ofBits_real (IntOp.andi (IntOp.addi (magB b) 262144#32) 4294443008#32) (by
    show (((magB b) + 262144#32) &&& 4294443008#32).toNat / 2 ^ 23 % 256 < 255
    rw [BitVec.toNat_and, BitVec.toNat_add]
    have : ((magB b).toNat + (262144#32).toNat) % 2 ^ 32 &&& (4294443008#32).toNat ≤ ((magB b).toNat + (262144#32).toNat) % 2 ^ 32 := Nat.and_le_left
    have h2 : (262144#32).toNat = 262144 := rfl
    omega)
  exact ⟨_, fval_real _ b x hx⟩

/-- The weight from the two parts of the scale is the code times the scale. -/
theorem code_parts (z : BitVec 8) (p : ℕ) (b : BitVec 32) (w : BitVec 16) (hb : b.toNat / 65536 = w.toNat) :
    code z p * hiB b + code z p * loB b = code z p * sref w := by
  obtain ⟨h, hh⟩ := hiB_real b
  unfold loB code
  rw [hh, fval_mag b w hb, sref_eq, ← EReal.coe_sub, ← EReal.coe_mul, ← EReal.coe_mul, ← EReal.coe_mul, ← EReal.coe_add]
  congr 1
  ring

/-- The upper half of the word a field is read from is that field's scale. -/
theorem pairBits_hi {N G : ℕ} (s : (⟨2, ![N, G]⟩ : Shape).Idx → BitVec 16) (p r o : ℕ) (hp : p < 2) :
    (pairBits s p r o).toNat / 65536 = (at2 s o (2 * r + p)).toNat := by
  have ha : ∀ a b : BitVec 16, (a ++ b).toNat = a.toNat * 65536 + b.toNat := fun a b => by
    have := b.isLt
    rw [BitVec.toNat_append, ← Nat.shiftLeft_add_eq_or_of_lt this, Nat.shiftLeft_eq]
  unfold pairBits
  rcases Nat.le_one_iff_eq_zero_or_eq_one.mp (Nat.le_of_lt_succ hp) with rfl | rfl
  · rw [if_pos rfl]
    show ((at2 s o (2 * r + 1) ++ at2 s o (2 * r)) <<< (16#32)).toNat / 65536 = (at2 s o (2 * r)).toNat
    rw [BitVec.shiftLeft_eq', BitVec.toNat_shiftLeft, ha, Nat.shiftLeft_eq]
    have := (at2 s o (2 * r)).isLt
    have := (at2 s o (2 * r + 1)).isLt
    have h16 : (16#32).toNat = 16 := rfl
    rw [h16]
    omega
  · rw [if_neg (by decide), ha]
    have := (at2 s o (2 * r)).isLt
    omega

/-- The kernel's weight is the code times its group's scale. -/
theorem wtS_eq {N K2 G : ℕ} (q : (⟨2, ![N, K2]⟩ : Shape).Idx → BitVec 8) (s : (⟨2, ![N, G]⟩ : Shape).Idx → BitVec 16) (o j : ℕ) :
    wtS q s o j = code (at2 q o (j / 2)) (j % 2) * sref (at2 s o (j / 32)) := by
  unfold wtS
  rw [code_parts _ _ _ _ (pairBits_hi s (j / 32 % 2) (j / 64) o (Nat.mod_lt _ (by decide)))]
  congr 3
  omega

end Cert.KernelIdeal.Hand
-- ==== Proof.RefValue.lean ====
/- The reference's result, index by index, as the packed products of `Lin`. -/
module

public import proofs.«01_k».proof.Proof.KernelIdeal.Decode
public import proofs.«01_k».proof.Proof.Gen.ReferenceIdeal.Run
public import Idealize.ShloMosaic.Lib.Pointwise

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Hand (code at2 at2_ix lin wtS wtS_eq sref srefMag xin act mlp)

/-- The even positions and the odd positions of a sum. -/
theorem sum_pairs (f : ℕ → EReal) : ∀ n : ℕ, ∑ j ∈ Finset.range (2 * n), f j = ∑ j ∈ Finset.range n, f (2 * j) + ∑ j ∈ Finset.range n, f (2 * j + 1)
  | 0 => by simp
  | n + 1 => by
    rw [show 2 * (n + 1) = 2 * n + 1 + 1 by omega, Finset.sum_range_succ, Finset.sum_range_succ, sum_pairs f n, Finset.sum_range_succ,
      Finset.sum_range_succ, add_assoc, add_assoc, add_assoc]
    congr 1
    rw [← add_assoc, ← add_assoc]
    congr 1
    exact add_comm _ _

/-- A packed product as the sum over the low fields plus the sum over the high fields. -/
theorem lin_split {T KX N K2 G : ℕ} (x : (⟨2, ![T, KX]⟩ : Shape).Idx → EReal) (q : (⟨2, ![N, K2]⟩ : Shape).Idx → BitVec 8)
    (s : (⟨2, ![N, G]⟩ : Shape).Idx → BitVec 16) (n t o : ℕ) :
    lin x q s (2 * n) t o = ∑ j : Fin n, at2 x t (2 * j.val) * (code (at2 q o j.val) 0 * sref (at2 s o (j.val / 16)))
      + ∑ j : Fin n, at2 x t (2 * j.val + 1) * (code (at2 q o j.val) 1 * sref (at2 s o (j.val / 16))) := by
  unfold lin
  rw [sum_pairs, Finset.sum_range, Finset.sum_range]
  refine congrArg₂ (· + ·) (Finset.sum_congr rfl fun j _ => ?_) (Finset.sum_congr rfl fun j _ => ?_)
  · rw [wtS_eq, show 2 * j.val / 2 = j.val by omega, show 2 * j.val % 2 = 0 by omega, show 2 * j.val / 32 = j.val / 16 by omega]
  · rw [wtS_eq, show (2 * j.val + 1) / 2 = j.val by omega, show (2 * j.val + 1) % 2 = 1 by omega,
      show (2 * j.val + 1) / 32 = j.val / 16 by omega]

theorem code_low_int : ∀ b : BitVec 8, (IntOp.subi (IntOp.andi (BitVec.setWidth 32 b) 15#32) 8#32).toInt = ((b.toNat % 16 : ℕ) : ℤ) - 8 := by
  decide +kernel

theorem code_high_int : ∀ b : BitVec 8,
    (IntOp.subi (IntOp.shrsi ArithUnit.host (BitVec.setWidth 32 b) 4#32) 8#32).toInt = ((b.toNat / 16 : ℕ) : ℤ) - 8 := by
  decide +kernel

theorem code_low (b : BitVec 8) :
    FloatOps.sitofp (F := Ideal) FTy.f32 (IntOp.subi (IntOp.andi (BitVec.setWidth 32 b) 15#32) 8#32) = code b 0 :=
  congrArg (fun z : ℤ => ((z : ℝ) : EReal)) (code_low_int b)

theorem code_high (b : BitVec 8) :
    FloatOps.sitofp (F := Ideal) FTy.f32 (IntOp.subi (IntOp.shrsi ArithUnit.host (BitVec.setWidth 32 b) 4#32) 8#32) = code b 1 :=
  congrArg (fun z : ℤ => ((z : ℝ) : EReal)) (code_high_int b)

theorem scale_gate (V0 : Valuation τ sig (Elt Ideal)) (i : Fin 2304) (j : Fin 224) :
    res_main_v27 V0 (ix2 i j) = sref (V0 (Proc.devRef Proc.tc main_arg2) (ix2 i j)) := by
  unfold res_main_v27 res_main_v21 res_main_v5 res_main_v7 res_main_v1 sref srefMag
  generalize (V0 (Proc.devRef Proc.tc main_arg2)) = w
  pointwise

theorem scale_up (V0 : Valuation τ sig (Elt Ideal)) (i : Fin 2304) (j : Fin 224) :
    res_main_v85 V0 (ix2 i j) = sref (V0 (Proc.devRef Proc.tc main_arg4) (ix2 i j)) := by
  unfold res_main_v85 res_main_v79 res_main_v63 res_main_v65 res_main_v59 sref srefMag
  generalize (V0 (Proc.devRef Proc.tc main_arg4)) = w
  pointwise

theorem scale_down (V0 : Valuation τ sig (Elt Ideal)) (i : Fin 7168) (j : Fin 72) :
    res_main_v146 V0 (ix2 i j) = sref (V0 (Proc.devRef Proc.tc main_arg6) (ix2 i j)) := by
  unfold res_main_v146 res_main_v140 res_main_v124 res_main_v126 res_main_v120 sref srefMag
  generalize (V0 (Proc.devRef Proc.tc main_arg6)) = w
  pointwise

/-- The packed product of the first two layers, as the reference writes it. -/
theorem lin_wide (x : FVec Ideal S16x1x7168 .bf16) (q : IVec S2304x3584 8) (w : IVec S2304x224 16) (s : FVec Ideal S2304x224 .f32)
    (hs : ∀ i j, s (ix2 i j) = sref (w (ix2 i j))) (t : Fin 16) (o : Fin 2304) :
    addf (Host.dotGeneral (F := Ideal) (φ₁ := .bf16) (φ₂ := .bf16) dot_S16x1x3584_S2304x3584_S16x1x2304_2_1_01_0_n_n none (shapeCast _ (extractStridedSlice S16x1x3584x1 ![0, 0, 0, 0] (shapeCast S16x1x3584x2 x shapeCasts_S16x1x7168_S16x1x3584x2) slices_S16x1x3584x2_S16x1x3584x1_0_0_0_0) shapeCasts_S16x1x3584x1_S16x1x3584) (truncf .bf16 (shapeCast _ (mulf (shapeCast _ (sitofp .f32 (subi (andi (extui 32 q natLt_8_32) (broadcastInDim S2304x3584 ![] bcast_S_S2304x3584 (constantI S_ 32 15#32))) (broadcastInDim S2304x3584 ![] bcast_S_S2304x3584 (constantI S_ 32 8#32)))) shapeCasts_S2304x3584_S2304x224x16) (broadcastInDim S2304x224x16 ![0, 1, 2] bcast_S2304x224x1_S2304x224x16_0_1_2 (broadcastInDim S2304x224x1 ![0, 1] bcast_S2304x224_S2304x224x1_0_1 s))) shapeCasts_S2304x224x16_S2304x3584) bitsLt_bf16_f32))
      (Host.dotGeneral (F := Ideal) (φ₁ := .bf16) (φ₂ := .bf16) dot_S16x1x3584_S2304x3584_S16x1x2304_2_1_01_0_n_n none (shapeCast _ (extractStridedSlice S16x1x3584x1 ![0, 0, 0, 1] (shapeCast S16x1x3584x2 x shapeCasts_S16x1x7168_S16x1x3584x2) slices_S16x1x3584x2_S16x1x3584x1_0_0_0_1) shapeCasts_S16x1x3584x1_S16x1x3584) (truncf .bf16 (shapeCast _ (mulf (shapeCast _ (sitofp .f32 (subi (Host.shrsi (extui 32 q natLt_8_32) (broadcastInDim S2304x3584 ![] bcast_S_S2304x3584 (constantI S_ 32 4#32))) (broadcastInDim S2304x3584 ![] bcast_S_S2304x3584 (constantI S_ 32 8#32)))) shapeCasts_S2304x3584_S2304x224x16) (broadcastInDim S2304x224x16 ![0, 1, 2] bcast_S2304x224x1_S2304x224x16_0_1_2 (broadcastInDim S2304x224x1 ![0, 1] bcast_S2304x224_S2304x224x1_0_1 s))) shapeCasts_S2304x224x16_S2304x3584) bitsLt_bf16_f32)) (ix3 t 0 o)
      = lin (T := 16) (KX := 7168) (fun y => x (ix3 (y 0) 0 (y 1))) q w 7168 t.val o.val := by
  refine Eq.trans ?_ (lin_split (T := 16) (KX := 7168) (fun y => x (ix3 (y 0) 0 (y 1))) q w 3584 t.val o.val).symm
  pointwise
  simp only [code_low, code_high, hs]
  refine congrArg₂ (· + ·) (Finset.sum_congr rfl fun j _ => ?_) (Finset.sum_congr rfl fun j _ => ?_)
  · have e1 := at2_ix (n0 := 16) (n1 := 7168) (fun y => x (ix3 (y 0) 0 (y 1))) t ⟨2 * j.val, by omega⟩
    have e2 := at2_ix q o j
    have e3 := at2_ix w o ⟨j.val / 16, by omega⟩
    rw [e1, e2, e3]
    refine congrArg₂ (· * ·) (congrArg (fun z => x (ix3 t 0 z)) (Fin.ext (Nat.mul_comm _ _))) rfl
  · have e1 := at2_ix (n0 := 16) (n1 := 7168) (fun y => x (ix3 (y 0) 0 (y 1))) t ⟨2 * j.val + 1, by omega⟩
    have e2 := at2_ix q o j
    have e3 := at2_ix w o ⟨j.val / 16, by omega⟩
    rw [e1, e2, e3]
    refine congrArg₂ (· * ·) (congrArg (fun z => x (ix3 t 0 z)) (Fin.ext (congrArg (· + 1) (Nat.mul_comm _ _)))) rfl

/-- The packed product of the last layer, as the reference writes it. -/
theorem lin_down (x : FVec Ideal S16x1x2304 .bf16) (q : IVec S7168x1152 8) (w : IVec S7168x72 16) (s : FVec Ideal S7168x72 .f32)
    (hs : ∀ i j, s (ix2 i j) = sref (w (ix2 i j))) (t : Fin 16) (o : Fin 7168) :
    addf (Host.dotGeneral (F := Ideal) (φ₁ := .bf16) (φ₂ := .bf16) dot_S16x1x1152_S7168x1152_S16x1x7168_2_1_01_0_n_n none (shapeCast _ (extractStridedSlice S16x1x1152x1 ![0, 0, 0, 0] (shapeCast S16x1x1152x2 x shapeCasts_S16x1x2304_S16x1x1152x2) slices_S16x1x1152x2_S16x1x1152x1_0_0_0_0) shapeCasts_S16x1x1152x1_S16x1x1152) (truncf .bf16 (shapeCast _ (mulf (shapeCast _ (sitofp .f32 (subi (andi (extui 32 q natLt_8_32) (broadcastInDim S7168x1152 ![] bcast_S_S7168x1152 (constantI S_ 32 15#32))) (broadcastInDim S7168x1152 ![] bcast_S_S7168x1152 (constantI S_ 32 8#32)))) shapeCasts_S7168x1152_S7168x72x16) (broadcastInDim S7168x72x16 ![0, 1, 2] bcast_S7168x72x1_S7168x72x16_0_1_2 (broadcastInDim S7168x72x1 ![0, 1] bcast_S7168x72_S7168x72x1_0_1 s))) shapeCasts_S7168x72x16_S7168x1152) bitsLt_bf16_f32))
      (Host.dotGeneral (F := Ideal) (φ₁ := .bf16) (φ₂ := .bf16) dot_S16x1x1152_S7168x1152_S16x1x7168_2_1_01_0_n_n none (shapeCast _ (extractStridedSlice S16x1x1152x1 ![0, 0, 0, 1] (shapeCast S16x1x1152x2 x shapeCasts_S16x1x2304_S16x1x1152x2) slices_S16x1x1152x2_S16x1x1152x1_0_0_0_1) shapeCasts_S16x1x1152x1_S16x1x1152) (truncf .bf16 (shapeCast _ (mulf (shapeCast _ (sitofp .f32 (subi (Host.shrsi (extui 32 q natLt_8_32) (broadcastInDim S7168x1152 ![] bcast_S_S7168x1152 (constantI S_ 32 4#32))) (broadcastInDim S7168x1152 ![] bcast_S_S7168x1152 (constantI S_ 32 8#32)))) shapeCasts_S7168x1152_S7168x72x16) (broadcastInDim S7168x72x16 ![0, 1, 2] bcast_S7168x72x1_S7168x72x16_0_1_2 (broadcastInDim S7168x72x1 ![0, 1] bcast_S7168x72_S7168x72x1_0_1 s))) shapeCasts_S7168x72x16_S7168x1152) bitsLt_bf16_f32)) (ix3 t 0 o)
      = lin (T := 16) (KX := 2304) (fun y => x (ix3 (y 0) 0 (y 1))) q w 2304 t.val o.val := by
  refine Eq.trans ?_ (lin_split (T := 16) (KX := 2304) (fun y => x (ix3 (y 0) 0 (y 1))) q w 1152 t.val o.val).symm
  pointwise
  simp only [code_low, code_high, hs]
  refine congrArg₂ (· + ·) (Finset.sum_congr rfl fun j _ => ?_) (Finset.sum_congr rfl fun j _ => ?_)
  · have e1 := at2_ix (n0 := 16) (n1 := 2304) (fun y => x (ix3 (y 0) 0 (y 1))) t ⟨2 * j.val, by omega⟩
    have e2 := at2_ix q o j
    have e3 := at2_ix w o ⟨j.val / 16, by omega⟩
    rw [e1, e2, e3]
    refine congrArg₂ (· * ·) (congrArg (fun z => x (ix3 t 0 z)) (Fin.ext (Nat.mul_comm _ _))) rfl
  · have e1 := at2_ix (n0 := 16) (n1 := 2304) (fun y => x (ix3 (y 0) 0 (y 1))) t ⟨2 * j.val + 1, by omega⟩
    have e2 := at2_ix q o j
    have e3 := at2_ix w o ⟨j.val / 16, by omega⟩
    rw [e1, e2, e3]
    refine congrArg₂ (· * ·) (congrArg (fun z => x (ix3 t 0 z)) (Fin.ext (congrArg (· + 1) (Nat.mul_comm _ _)))) rfl

theorem gate_eq (V0 : Valuation τ sig (Elt Ideal)) (t : Fin 16) (o : Fin 2304) :
    res_main_v57 V0 (ix3 t 0 o) = lin (xin (V0 (Proc.devRef Proc.tc main_arg0))) (V0 (Proc.devRef Proc.tc main_arg1)) (V0 (Proc.devRef Proc.tc main_arg2)) 7168 t.val o.val :=
  lin_wide _ _ _ _ (scale_gate V0) t o

theorem logistic_eq (v : FVec Ideal S16x1x2304 .f32) (a : Fin 16) (b : Fin 2304) :
    Host.divf (broadcastInDim S16x1x2304 ![] bcast_S_S16x1x2304 (constant S_ .f32 0x3F800000#32)) (addf (broadcastInDim S16x1x2304 ![] bcast_S_S16x1x2304 (constant S_ .f32 0x3F800000#32)) (Host.exp (Host.negf v))) (ix3 a 0 b)
      = Ideal.logistic (v (ix3 a 0 b)) := by
  have h1 : Ideal.ofBits FTy.f32 0x3F800000#32 = 1 := by
    rw [Cert.KernelIdeal.Hand.ofBits_norm _ 127 0 rfl (by decide) (by decide) (by decide)]
    norm_num
  unfold Ideal.logistic
  rw [← h1]
  pointwise

/-- The reference's result term, at an index. -/
theorem result_eq (V0 : Valuation τ sig (Elt Ideal)) (t : Fin 16) (o : Fin 7168) :
    (truncf .bf16 (addf (Host.dotGeneral (F := Ideal) (φ₁ := .bf16) (φ₂ := .bf16) dot_S16x1x1152_S7168x1152_S16x1x7168_2_1_01_0_n_n none (shapeCast _ (extractStridedSlice S16x1x1152x1 ![0, 0, 0, 0] (res_main_v169 V0) slices_S16x1x1152x2_S16x1x1152x1_0_0_0_0) shapeCasts_S16x1x1152x1_S16x1x1152) (truncf .bf16 (shapeCast _ (mulf (shapeCast _ (sitofp .f32 (subi (andi (res_main_v119 V0) (broadcastInDim S7168x1152 ![] bcast_S_S7168x1152 (constantI S_ 32 15#32))) (broadcastInDim S7168x1152 ![] bcast_S_S7168x1152 (constantI S_ 32 8#32)))) shapeCasts_S7168x1152_S7168x72x16) (broadcastInDim S7168x72x16 ![0, 1, 2] bcast_S7168x72x1_S7168x72x16_0_1_2 (broadcastInDim S7168x72x1 ![0, 1] bcast_S7168x72_S7168x72x1_0_1 (res_main_v146 V0)))) shapeCasts_S7168x72x16_S7168x1152) bitsLt_bf16_f32)) (Host.dotGeneral (F := Ideal) (φ₁ := .bf16) (φ₂ := .bf16) dot_S16x1x1152_S7168x1152_S16x1x7168_2_1_01_0_n_n none (shapeCast _ (extractStridedSlice S16x1x1152x1 ![0, 0, 0, 1] (res_main_v169 V0) slices_S16x1x1152x2_S16x1x1152x1_0_0_0_1) shapeCasts_S16x1x1152x1_S16x1x1152) (truncf .bf16 (shapeCast _ (mulf (shapeCast _ (sitofp .f32 (subi (Host.shrsi (res_main_v119 V0) (broadcastInDim S7168x1152 ![] bcast_S_S7168x1152 (constantI S_ 32 4#32))) (broadcastInDim S7168x1152 ![] bcast_S_S7168x1152 (constantI S_ 32 8#32)))) shapeCasts_S7168x1152_S7168x72x16) (broadcastInDim S7168x72x16 ![0, 1, 2] bcast_S7168x72x1_S7168x72x16_0_1_2 (broadcastInDim S7168x72x1 ![0, 1] bcast_S7168x72_S7168x72x1_0_1 (res_main_v146 V0)))) shapeCasts_S7168x72x16_S7168x1152) bitsLt_bf16_f32))) bitsLt_bf16_f32 : FVec Ideal S16x1x7168 .bf16) (ix3 t 0 o)
      = mlp (xin (V0 (Proc.devRef Proc.tc main_arg0))) (V0 (Proc.devRef Proc.tc main_arg1)) (V0 (Proc.devRef Proc.tc main_arg2)) (V0 (Proc.devRef Proc.tc main_arg3)) (V0 (Proc.devRef Proc.tc main_arg4)) (V0 (Proc.devRef Proc.tc main_arg5)) (V0 (Proc.devRef Proc.tc main_arg6)) (ix2 t o) := by
  refine (lin_down _ (V0 (Proc.devRef Proc.tc main_arg5)) (V0 (Proc.devRef Proc.tc main_arg6)) (res_main_v146 V0) (scale_down V0) t o).trans ?_
  unfold mlp
  refine congrArg (fun f => lin f _ _ 2304 t.val o.val) (funext fun y => ?_)
  exact congrArg₂ (fun a b : EReal => a * b) (congrArg₂ (fun a b : EReal => a * b) (gate_eq V0 (y 0) (y 1)) ((logistic_eq (res_main_v57 V0) (y 0) (y 1)).trans (congrArg Ideal.logistic (gate_eq V0 (y 0) (y 1)))))
    (lin_wide _ _ _ _ (scale_up V0) (y 0) (y 1))

end Cert.ReferenceIdeal.Value
-- ==== Proof.lean ====
module

public import proofs.«01_k».proof.Defs
public import proofs.«01_k».proof.Proof.Kernel.Frame
public import proofs.«01_k».proof.Proof.KernelIdeal.Frame
public import proofs.«01_k».proof.Proof.KernelIdeal.ValEnd
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The reference leaves its arguments as they were; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the reference return the same array of extended reals: each is the gated product at every index. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨Cert.KernelIdeal.Hand.Named.answer m, Cert.KernelIdeal.Hand.Named.run m ρ,
    (θ_run Cert.ReferenceIdeal.defs _ _).mono (fun _ h c => ⟨(h c).1.trans (funext fun y => by
        obtain ⟨a, b, rfl⟩ : ∃ (a : Fin 16) (b : Fin 7168), y = ix3 a 0 b := by
          obtain ⟨a, k, b, rfl⟩ : ∃ (a : Fin 16) (k : Fin 1) (b : Fin 7168), y = ix3 a k b :=
            ⟨y 0, y 1, y 2, eq_ix3 (n0 := 16) (n1 := 1) (n2 := 7168) y⟩
          exact ⟨a, b, by rw [Subsingleton.elim k 0]⟩
        refine (Cert.ReferenceIdeal.Value.result_eq (StableHlo.launchContents m' c) a b).trans ?_
        refine Eq.trans ?_ (Cert.KernelIdeal.Hand.Named.add_axis (Cert.KernelIdeal.Hand.Named.result m c) a b).symm
        obtain ⟨h0, h1, h2, h3, h4, h5, h6⟩ := hagree c
        unfold Cert.KernelIdeal.Hand.Named.result
        rw [← h0, ← h1, ← h2, ← h3, ← h4, ← h5, ← h6]), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    frame_reference, trivial, algebraic⟩

end Cert.Proof

end
